-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "loss_scale" .f32 0x33CCCCCD#32 ((1 / 10485760 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x80x80 : Shape := ⟨4, ![2, 1024, 80, 80]⟩
abbrev S1024x1024 : Shape := ⟨2, ![1024, 1024]⟩
abbrev S1024x1 : Shape := ⟨2, ![1024, 1]⟩
abbrev S_ : Shape := ⟨0, ![]⟩

class Facts : Prop where
  bcast_S_S2x1024x80x80 : S_.BroadcastsInDim S2x1024x80x80 (![] : Fin 0 → Fin S2x1024x80x80.rank)
  reducesTo_S2x1024x80x80_S_d0_1_2_3 : S2x1024x80x80.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x1024x80x80 .f32) (main_arg1 : FVec F S1024x1024 .f32) (main_arg2 : FVec F S1024x1 .f32) : IVec S_ 1 :=
  let main_v0 : FVec F S2x1024x80x80 .f32 := Host.absf main_arg0
  let main_cst : FVec F S_ .f32 := constant S_ .f32 0x7F800000#32
  let main_v1 : FVec F S2x1024x80x80 .f32 := broadcastInDim S2x1024x80x80 ![] bcast_S_S2x1024x80x80 main_cst
  let main_v2 : IVec S2x1024x80x80 1 := cmpf .olt main_v0 main_v1
  let main_c : IVec S_ 1 := constantI S_ 1 1#1
  let main_v3 : IVec S_ 1 := (fun x v => Host.reduce IntOp.andi x v reducesTo_S2x1024x80x80_S_d0_1_2_3 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S2x1024x80x80 : Shape := ⟨4, ![2, 1024, 80, 80]⟩
abbrev S1024x1024 : Shape := ⟨2, ![1024, 1024]⟩
abbrev S1024x1 : Shape := ⟨2, ![1024, 1]⟩
abbrev S2x1024x6400 : Shape := ⟨3, ![2, 1024, 6400]⟩
abbrev S1x1024 : Shape := ⟨2, ![1, 1024]⟩
abbrev S2x1x6400 : Shape := ⟨3, ![2, 1, 6400]⟩
abbrev S1x1280 : Shape := ⟨2, ![1, 1280]⟩
abbrev S1x1024x1280 : Shape := ⟨3, ![1, 1024, 1280]⟩
abbrev S1x1x1280 : Shape := ⟨3, ![1, 1, 1280]⟩
abbrev S1024 : Shape := ⟨1, ![1024]⟩
abbrev S1024x1280 : Shape := ⟨2, ![1024, 1280]⟩
abbrev S1280 : Shape := ⟨1, ![1280]⟩
abbrev S_ : Shape := ⟨0, ![]⟩
abbrev S2x1x80x80 : Shape := ⟨4, ![2, 1, 80, 80]⟩
abbrev S12800 : Shape := ⟨1, ![12800]⟩

abbrev nBuf : Space → Nat
  | .hbm => 16
  | .vmem => 13
  | .smem => 0
  | _ => 0

abbrev bufTy : (tb : Table) → Fin (tcTables nBuf tb) → BufTy
  | .hbm, ⟨0, _⟩ => ⟨S2x1024x80x80, .f32⟩
  | .hbm, ⟨1, _⟩ => ⟨S1024x1024, .f32⟩
  | .hbm, ⟨2, _⟩ => ⟨S1024x1, .f32⟩
  | .hbm, ⟨3, _⟩ => ⟨S2x1024x6400, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S2x1024x6400, .f32⟩
  | .hbm, ⟨8, _⟩ => ⟨S2x1x6400, .f32⟩
  | .hbm, ⟨9, _⟩ => ⟨S2x1x6400, .i32⟩
  | .hbm, ⟨10, _⟩ => ⟨S1x1280, .f32⟩
  | .hbm, ⟨11, _⟩ => ⟨S_, .f32⟩
  | .hbm, ⟨12, _⟩ => ⟨S_, .f32⟩
  | .hbm, ⟨13, _⟩ => ⟨S2x1x80x80, .f32⟩
  | .hbm, ⟨14, _⟩ => ⟨S2x1024x80x80, .f32⟩
  | .hbm, ⟨15, _⟩ => ⟨S12800, .i32⟩
  | .local _ .vmem, ⟨0, _⟩ => ⟨S1x1024x1280, .f32⟩
  | .local _ .vmem, ⟨1, _⟩ => ⟨S1x1024x1280, .f32⟩
  | .local _ .vmem, ⟨2, _⟩ => ⟨S1024x1024, .f32⟩
  | .local _ .vmem, ⟨3, _⟩ => ⟨S1024x1024, .bf16⟩
  | .local _ .vmem, ⟨4, _⟩ => ⟨S1x1024, .f32⟩
  | .local _ .vmem, ⟨5, _⟩ => ⟨S1x1024x1280, .f32⟩
  | .local _ .vmem, ⟨6, _⟩ => ⟨S1x1024x1280, .f32⟩
  | .local _ .vmem, ⟨7, _⟩ => ⟨S1x1x1280, .f32⟩
  | .local _ .vmem, ⟨8, _⟩ => ⟨S1x1x1280, .f32⟩
  | .local _ .vmem, ⟨9, _⟩ => ⟨S1x1x1280, .i32⟩
  | .local _ .vmem, ⟨10, _⟩ => ⟨S1x1x1280, .i32⟩
  | .local _ .vmem, ⟨11, _⟩ => ⟨S1x1280, .f32⟩
  | .local _ .vmem, ⟨12, _⟩ => ⟨S1024x1, .f32⟩
  | _, _ => ⟨S2x1024x80x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![2, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1280 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "loss_scale" => some ((1 / 10485760 : ℝ) : EReal)
  | _ => none
-- ==== ReferenceIdeal.lean ====
abbrev S2x1024x80x80 : Shape := ⟨4, ![2, 1024, 80, 80]⟩
abbrev S1024x1024 : Shape := ⟨2, ![1024, 1024]⟩
abbrev S1024x1 : Shape := ⟨2, ![1024, 1]⟩
abbrev S2x80x80x1024 : Shape := ⟨4, ![2, 80, 80, 1024]⟩
abbrev S12800x1024 : Shape := ⟨2, ![12800, 1024]⟩
abbrev S_ : Shape := ⟨0, ![]⟩
abbrev S12800 : Shape := ⟨1, ![12800]⟩
abbrev S12800x1 : Shape := ⟨2, ![12800, 1]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1x2x80x80 : Shape := ⟨4, ![1, 2, 80, 80]⟩
abbrev S2x1x80x80 : Shape := ⟨4, ![2, 1, 80, 80]⟩

abbrev nBuf : Space → Nat
  | .hbm => 79
  | .vmem => 0
  | .smem => 0
  | _ => 0

abbrev bufTy : (tb : Table) → Fin (tcTables nBuf tb) → BufTy
  | .hbm, ⟨0, _⟩ => ⟨S2x1024x80x80, .f32⟩
  | .hbm, ⟨1, _⟩ => ⟨S1024x1024, .f32⟩
  | .hbm, ⟨2, _⟩ => ⟨S1024x1, .f32⟩
  | .hbm, ⟨3, _⟩ => ⟨S2x80x80x1024, .f32⟩
  | .hbm, ⟨4, _⟩ => ⟨S12800x1024, .f32⟩
  | .hbm, ⟨5, _⟩ => ⟨S12800x1024, .f32⟩
  | .hbm, ⟨6, _⟩ => ⟨S_, .f32⟩
  | .hbm, ⟨7, _⟩ => ⟨S12800, .f32⟩
  | .hbm, ⟨8, _⟩ => ⟨S12800x1, .f32⟩
  | .hbm, ⟨9, _⟩ => ⟨S1024x1024, .f32⟩
  | .hbm, ⟨10, _⟩ => ⟨S12800x1024, .f32⟩
  | .hbm, ⟨11, _⟩ => ⟨S_, .f32⟩
  | .hbm, ⟨12, _⟩ => ⟨S12800x1024, .f32⟩
  | .hbm, ⟨13, _⟩ => ⟨S12800x1024, .f32⟩
  | .hbm, ⟨14, _⟩ => ⟨S12800x1024, .f32⟩
  | .hbm, ⟨15, _⟩ => ⟨S12800x1024, .f32⟩
  | .hbm, ⟨16, _⟩ => ⟨S1024x1024, .f32⟩
  | .hbm, ⟨17, _⟩ => ⟨S_, .f32⟩
  | .hbm, ⟨18, _⟩ => ⟨S1024, .f32⟩
  | .hbm, ⟨19, _⟩ => ⟨S1x1024, .f32⟩
  | .hbm, ⟨20, _⟩ => ⟨S12800x1024, .f32⟩
  | .hbm, ⟨21, _⟩ => ⟨S12800x1024, .f32⟩
  | .hbm, ⟨22, _⟩ => ⟨S12800x1024, .i32⟩
  | .hbm, ⟨23, _⟩ => ⟨S_, .f32⟩
  | .hbm, ⟨24, _⟩ => ⟨S_, .i32⟩
  | .hbm, ⟨25, _⟩ => ⟨S12800, .f32⟩
  | .hbm, ⟨26, _⟩ => ⟨S12800, .i32⟩
  | .hbm, ⟨27, _⟩ => ⟨S_, .i32⟩
  | .hbm, ⟨28, _⟩ => ⟨S12800, .i32⟩
  | .hbm, ⟨29, _⟩ => ⟨S12800, .i1⟩
  | .hbm, ⟨30, _⟩ => ⟨S_, .i32⟩
  | .hbm, ⟨31, _⟩ => ⟨S12800, .i32⟩
  | .hbm, ⟨32, _⟩ => ⟨S12800, .i32⟩
  | .hbm, ⟨33, _⟩ => ⟨S12800, .i32⟩
  | .hbm, ⟨34, _⟩ => ⟨S12800x1, .i32⟩
  | .hbm, ⟨35, _⟩ => ⟨S1, .i32⟩
  | .hbm, ⟨36, _⟩ => ⟨S_, .i32⟩
  | .hbm, ⟨37, _⟩ => ⟨S12800x1, .i32⟩
  | .hbm, ⟨38, _⟩ => ⟨S12800x1, .i1⟩
  | .hbm, ⟨39, _⟩ => ⟨S1x1, .i32⟩
  | .hbm, ⟨40, _⟩ => ⟨S12800x1, .i32⟩
  | .hbm, ⟨41, _⟩ => ⟨S12800x1, .i1⟩
  | .hbm, ⟨42, _⟩ => ⟨S12800x1, .i1⟩
  | .hbm, ⟨43, _⟩ => ⟨S_, .i1⟩
  | .hbm, ⟨44, _⟩ => ⟨S12800, .i1⟩
  | .hbm, ⟨45, _⟩ => ⟨S12800x1024, .f32⟩
  | .hbm, ⟨46, _⟩ => ⟨S12800x1024, .i1⟩
  | .hbm, ⟨47, _⟩ => ⟨S_, .f32⟩
  | .hbm, ⟨48, _⟩ => ⟨S12800x1024, .f32⟩
  | .hbm, ⟨49, _⟩ => ⟨S12800x1024, .f32⟩
  | .hbm, ⟨50, _⟩ => ⟨S12800x1024, .f32⟩
  | .hbm, ⟨51, _⟩ => ⟨S12800x1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S12800x1024, .f32⟩
  | .hbm, ⟨59, _⟩ => ⟨S12800x1024, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S12800x1024, .f32⟩
  | .hbm, ⟨66, _⟩ => ⟨S12800x1024, .f32⟩
  | .hbm, ⟨67, _⟩ => ⟨S2x80x80x1024, .f32⟩
  | .hbm, ⟨68, _⟩ => ⟨S2x1024x80x80, .f32⟩
  | .hbm, ⟨69, _⟩ => ⟨S1x2x80x80, .f32⟩
  | .hbm, ⟨70, _⟩ => ⟨S2x1x80x80, .f32⟩
  | .hbm, ⟨71, _⟩ => ⟨S2x1x80x80, .f32⟩
  | .hbm, ⟨72, _⟩ => ⟨S2x1x80x80, .f32⟩
  | .hbm, ⟨73, _⟩ => ⟨S_, .f32⟩
  | .hbm, ⟨74, _⟩ => ⟨S2x1x80x80, .f32⟩
  | .hbm, ⟨75, _⟩ => ⟨S2x1x80x80, .f32⟩
  | .hbm, ⟨76, _⟩ => ⟨S_, .f32⟩
  | .hbm, ⟨77, _⟩ => ⟨S2x1x80x80, .f32⟩
  | .hbm, ⟨78, _⟩ => ⟨S2x1x80x80, .f32⟩
  | _, _ => ⟨S2x1024x80x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_2 : Ref sig .tc := ⟨.hbm, 52, rfl⟩
abbrev main_v20 : Ref sig .tc := ⟨.hbm, 53, rfl⟩
abbrev main_cst_3 : Ref sig .tc := ⟨.hbm, 54, rfl⟩
abbrev main_v21 : Ref sig .tc := ⟨.hbm, 55, rfl⟩
abbrev main_cst_4 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_cst_5 : Ref sig .tc := ⟨.hbm, 60, rfl⟩
abbrev main_v25 : Ref sig .tc := ⟨.hbm, 61, rfl⟩
abbrev main_cst_6 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_v37 : Ref sig .tc := ⟨.hbm, 75, rfl⟩
abbrev main_cst_8 : Ref sig .tc := ⟨.hbm, 76, rfl⟩
abbrev main_v38 : Ref sig .tc := ⟨.hbm, 77, rfl⟩
abbrev main_v39 : Ref sig .tc := ⟨.hbm, 78, rfl⟩

abbrev nD : Nat := 1
abbrev τ : Topo := Topo.v7x

variable {F : FTy → Type} [FloatOps F]
-- ==== Proof.Spec.lean ====
/-
  The mathematics both programs compute, as plain functions on the extended reals, and the facts about it that
  neither program's text enters: where a minimum is first attained, and how the squared distance, written out as
  three sums, closes up to a sum of squares when every value is finite.
-/
module

public import Idealize.ShloMosaic.Lib.Pointwise
public import Idealize.ShloMosaic.PureOps.Ideal.Laws

@[expose] public section

noncomputable section

namespace VQ

open Idealize.ShloMosaic

/-! ## The first place a row attains its minimum -/

/-- The least entry of a row. -/
def least {n : ℕ} (f : Fin n → EReal) : EReal := Finset.univ.fold min ⊤ f

/-- The least value is at most each value. -/
theorem least_le {n : ℕ} (f : Fin n → EReal) (k : Fin n) : least f ≤ f k :=
  (Finset.le_fold_min (least f)).1 le_rfl |>.2 k (Finset.mem_univ k)

/-- A lower bound of every entry is below the least. -/
theorem le_least {n : ℕ} (f : Fin n → EReal) (x : EReal) (h : ∀ k, x ≤ f k) : x ≤ least f :=
  (Finset.le_fold_min x).2 ⟨le_top, fun k _ => h k⟩

/-- A nonempty row attains its least entry. -/
theorem exists_least {n : ℕ} (f : Fin (n + 1) → EReal) : ∃ k, f k = least f := by
  obtain ⟨k, hk⟩ := Finite.exists_min f
  exact ⟨k, le_antisymm (le_least f _ hk) (least_le f k)⟩

/-- The first place at which a nonempty row attains its least entry. -/
def firstLeast {n : ℕ} (f : Fin (n + 1) → EReal) : Fin (n + 1) :=
  (Finset.univ.filter fun k => f k = least f).min'
    (by obtain ⟨k, hk⟩ := exists_least f; exact ⟨k, by simpa using hk⟩)

/-- The value at the first least place is the least value. -/
theorem firstLeast_spec {n : ℕ} (f : Fin (n + 1) → EReal) : f (firstLeast f) = least f := by
  have := Finset.min'_mem (Finset.univ.filter fun k => f k = least f)
    (by obtain ⟨k, hk⟩ := exists_least f; exact ⟨k, by simpa using hk⟩)
  exact (Finset.mem_filter.1 this).2

/-- Every place that holds the least value comes at or after the first such place. -/
theorem firstLeast_le {n : ℕ} (f : Fin (n + 1) → EReal) (k : Fin (n + 1)) (h : f k = least f) :
    firstLeast f ≤ k :=
  Finset.min'_le _ _ (by simpa using h)

/-- The first place is the one place that attains the least entry with nothing before it attaining it. -/
theorem eq_firstLeast {n : ℕ} (f : Fin (n + 1) → EReal) (k : Fin (n + 1)) (h : ∀ j, f k ≤ f j)
    (h' : ∀ j < k, f j ≠ f k) : k = firstLeast f := by
  have hk : f k = least f := le_antisymm (le_least f _ h) (least_le f k)
  rcases lt_or_eq_of_le (firstLeast_le f k hk) with hlt | heq
  · exact absurd ((firstLeast_spec f).trans hk.symm) (h' _ hlt)
  · exact heq.symm

/-! ## The signed minimum of small words -/

/-- The signed minimum of two numbers below `2 ^ 31`, as 32-bit words, is the word of their minimum. -/
theorem minsi_ofNat (a b : ℕ) (ha : a < 2 ^ 31) (hb : b < 2 ^ 31) :
    IntOp.minsi (BitVec.ofNat 32 a) (BitVec.ofNat 32 b) = BitVec.ofNat 32 (min a b) := by
  have h : (BitVec.ofNat 32 a).slt (BitVec.ofNat 32 b) = decide (a < b) := by
    rw [BitVec.slt_eq_decide, BitVec.toInt_eq_toNat_of_lt (by simp; omega),
      BitVec.toInt_eq_toNat_of_lt (by simp; omega)]
    simp only [BitVec.toNat_ofNat]
    rw [Nat.mod_eq_of_lt (by omega), Nat.mod_eq_of_lt (by omega)]
    simp
  unfold IntOp.minsi
  rw [h]
  by_cases hab : a < b
  · simp [hab, min_eq_left hab.le]
  · simp [hab, min_eq_right (not_lt.1 hab)]

/-- The signed minimum of the words of finitely many numbers below `2 ^ 31` is the word of their minimum. -/
theorem fold_minsi_ofNat {ι : Type} (s : Finset ι) (w : ι → ℕ) (i : ℕ) (hi : i < 2 ^ 31)
    (hw : ∀ k, w k < 2 ^ 31) :
    s.fold IntOp.minsi (BitVec.ofNat 32 i) (fun k => BitVec.ofNat 32 (w k)) = BitVec.ofNat 32 (s.fold min i w)
      ∧ s.fold min i w < 2 ^ 31 := by
  classical
  induction s using Finset.induction_on with
  | empty => exact ⟨rfl, hi⟩
  | insert a s ha ih =>
    rw [Finset.fold_insert ha, Finset.fold_insert ha, ih.1, minsi_ofNat _ _ (hw a) ih.2]
    exact ⟨rfl, lt_of_le_of_lt (min_le_left _ _) (hw a)⟩

/-- Put at each place its number where the row attains its least entry, and the row's length elsewhere: the
    signed minimum is the number of the first such place. -/
theorem fold_minsi_firstLeast (f : Fin 1024 → EReal) (m : EReal) (hm : m = least f) :
    Finset.univ.fold IntOp.minsi 2147483647#32 (fun k : Fin 1024 => if f k = m then BitVec.ofNat 32 k.val else 1024#32)
      = BitVec.ofNat 32 (firstLeast f).val := by
  subst hm
  have e : (fun k : Fin 1024 => if f k = least f then BitVec.ofNat 32 k.val else 1024#32)
      = fun k => BitVec.ofNat 32 (if f k = least f then k.val else 1024) := by
    funext k; split <;> rfl
  rw [e]
  refine ((fold_minsi_ofNat Finset.univ (fun k : Fin 1024 => if f k = least f then k.val else 1024) 2147483647
    (by norm_num) fun k => ?_).1).trans (congrArg _ ?_)
  · show (if _ then _ else _ : ℕ) < _
    have := k.isLt
    split <;> omega
  · refine le_antisymm ?_ ?_
    · refine (Finset.fold_min_le _).2 (Or.inr ⟨firstLeast f, Finset.mem_univ _, ?_⟩)
      show (if _ then _ else _ : ℕ) ≤ _
      rw [if_pos (firstLeast_spec f)]
    · refine (Finset.le_fold_min _).2 ⟨by omega, fun k _ => ?_⟩
      show _ ≤ (if _ then _ else _ : ℕ)
      split
      · next h => exact firstLeast_le f k h
      · omega

/-! ## The squared distance and the nearest code -/

/-- The squared distance of a vector to code `k`, as both programs write it out: the vector's square norm, less
    twice the product of the code and the vector, plus the code's square norm. -/
def dist (cb : Fin 1024 → Fin 1024 → EReal) (x : Fin 1024 → EReal) (k : Fin 1024) : EReal :=
  ((∑ c, x c * x c) - 2 * ∑ c, cb k c * x c) + ∑ c, cb k c * cb k c

/-- The nearest code: the first one at the least distance. -/
def nearest (cb : Fin 1024 → Fin 1024 → EReal) (x : Fin 1024 → EReal) : Fin 1024 := firstLeast (dist cb x)

/-- A sum of finite extended reals is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A vector of finite extended reals is a vector of reals. -/
theorem exists_real {ι : Type} (x : ι → EReal) (h : ∀ i, x i ≠ ⊤ ∧ x i ≠ ⊥) : ∃ r : ι → ℝ, x = fun i => (r i : EReal) :=
  ⟨fun i => (x i).toReal, funext fun i => (EReal.coe_toReal (h i).1 (h i).2).symm⟩

/-- At finite values the distance written out in three sums is the sum of the squared differences. -/
theorem dist_eq_sum_sq (cb : Fin 1024 → Fin 1024 → EReal) (x : Fin 1024 → EReal) (k : Fin 1024)
    (hcb : ∀ c, cb k c ≠ ⊤ ∧ cb k c ≠ ⊥) (hx : ∀ c, x c ≠ ⊤ ∧ x c ≠ ⊥) :
    dist cb x k = ∑ c, (cb k c - x c) * (cb k c - x c) := by
  obtain ⟨a, ha⟩ := exists_real (cb k) hcb
  obtain ⟨b, rfl⟩ := exists_real x hx
  unfold dist
  rw [ha]
  have h2 : (2 : EReal) = ((2 : ℝ) : EReal) := rfl
  simp only [h2, ← EReal.coe_mul, ← EReal.coe_sub, ← coe_sum, ← EReal.coe_add]
  congr 1
  rw [Finset.mul_sum, ← Finset.sum_sub_distrib, ← Finset.sum_add_distrib]
  exact Finset.sum_congr rfl fun c _ => by ring

/-- So the least distance is the nearest code's sum of squared differences. -/
theorem least_dist_eq_sum_sq (cb : Fin 1024 → Fin 1024 → EReal) (x : Fin 1024 → EReal)
    (hcb : ∀ k c, cb k c ≠ ⊤ ∧ cb k c ≠ ⊥) (hx : ∀ c, x c ≠ ⊤ ∧ x c ≠ ⊥) :
    least (dist cb x)
      = ∑ c, (cb (nearest cb x) c - x c) * (cb (nearest cb x) c - x c) := by
  rw [← dist_eq_sum_sq cb x _ (hcb _) hx]
  exact (firstLeast_spec _).symm

/-- Adding to a finite value what takes it to a target gives the target. -/
theorem add_sub_self (a b : EReal) (h : a ≠ ⊤ ∧ a ≠ ⊥) : a + (b - a) = b := by
  lift a to ℝ using h
  induction b using EReal.rec with
  | bot => rfl
  | top => rfl
  | coe b => rw [← EReal.coe_sub, ← EReal.coe_add]; congr 1; ring

end VQ
-- ==== Proof.Words.lean ====
/-
  The numbers the programs' float words stand for.
-/
module

public import Idealize.ShloMosaic.Lib.Pointwise

@[expose] public section

noncomputable section

namespace VQ

open Idealize.ShloMosaic

/-- Two. -/
theorem word_two : Ideal.ofBits .f32 0x40000000#32 = 2 := by
  have : ((2 : ℝ) : EReal) = 2 := rfl
  rw [← this]
  simp [Ideal.ofBits, Ideal.ieee, -EReal.coe_mul]
  norm_num

/-- A quarter. -/
theorem word_quarter : Ideal.ofBits .f32 0x3E800000#32 = ((1 / 4 : ℝ) : EReal) := by
  simp [Ideal.ofBits, Ideal.ieee, -EReal.coe_mul]
  norm_num

/-- The number of values of the input, 2 · 1024 · 80 · 80. -/
theorem word_count : Ideal.ofBits .f32 0x4B480000#32 = ((13107200 : ℝ) : EReal) := by
  simp [Ideal.ofBits, Ideal.ieee, -EReal.coe_mul]

/-- Plus infinity. -/
theorem word_top : Ideal.ofBits .f32 0x7F800000#32 = ⊤ := by
  simp [Ideal.ofBits, Ideal.ieee]

end VQ
-- ==== Proof.Block.lean ====
/-
  What one grid point of the kernel computes, read at an index: the squared distances of a block's columns to the
  codes, the least one, the number of the nearest code, the code itself picked out by a one-hot matrix product, the
  reconstruction, and the loss of the block's columns added to what has been collected.
-/
module

public import proofs.«01_k».proof.Proof.Spec
public import proofs.«01_k».proof.Proof.Words
public import proofs.«01_k».proof.Proof.Gen.KernelIdeal.Skeleton

@[expose] public section

set_option maxRecDepth 16384

noncomputable section

namespace Cert.KernelIdeal

open Idealize.ShloMosaic Cert.KernelIdeal.Gen

/-- Column `l` of a block, a vector of 1024 channels. -/
def col (X : FVec Ideal S1x1024x1280 .f32) (l : Fin 1280) (c : Fin 1024) : EReal := X (ix3 0 c l)

/-- The codes, one per row. -/
def codes (CB : FVec Ideal S1024x1024 .f32) (k c : Fin 1024) : EReal := CB (ix2 k c)

/-- The number of the code nearest to column `l`. -/
def near (X : FVec Ideal S1x1024x1280 .f32) (CB : FVec Ideal S1024x1024 .f32) (l : Fin 1280) : Fin 1024 :=
  VQ.nearest (codes CB) (col X l)

/-- The codes' square norms, as the first point of a device's grid leaves them. -/
theorem norms_apply (CB : FVec Ideal S1024x1024 .f32) (k : Fin 1024) :
    k0_pay5 (F := Ideal) CB (ix2 k 0) = ∑ c, codes CB k c * codes CB k c := by
  pointwise [k0_pay5, codes]

/-- The distance matrix: entry `(k, l)` is the squared distance of column `l` to code `k`. -/
theorem dist_apply (X : FVec Ideal S1x1024x1280 .f32) (CB : FVec Ideal S1024x1024 .f32) (k : Fin 1024) (l : Fin 1280) :
    k0_pay7 (F := Ideal) X CB (k0_pay5 (F := Ideal) CB) (ix2 k l) = VQ.dist (codes CB) (col X l) k := by
  pointwise [k0_pay7]
  rw [norms_apply, VQ.word_two]
  rfl

/-- The least distance of column `l` to a code. -/
theorem least_apply (X : FVec Ideal S1x1024x1280 .f32) (CB : FVec Ideal S1024x1024 .f32) (l : Fin 1280) :
    k0_pay8 (F := Ideal) X CB (k0_pay5 (F := Ideal) CB) (ix2 0 l) = VQ.least (VQ.dist (codes CB) (col X l)) := by
  pointwise [k0_pay8]
  rw [VQ.word_top]
  simp only [dist_apply]
  rfl

/-- The minimum of the code numbers at the least distance is the nearest code's number. -/
theorem nearest_apply (X : FVec Ideal S1x1024x1280 .f32) (CB : FVec Ideal S1024x1024 .f32) (l : Fin 1280) :
    k0_pay9 (F := Ideal) X CB (k0_pay5 (F := Ideal) CB) (ix1 l) = BitVec.ofNat 32 (near X CB l).val := by
  pointwise [k0_pay9]
  simp only [dist_apply, least_apply]
  exact VQ.fold_minsi_firstLeast _ _ rfl

/-- The indices' block: the number of the nearest code as a word. -/
theorem index_apply (X : FVec Ideal S1x1024x1280 .f32) (CB : FVec Ideal S1024x1024 .f32) (l : Fin 1280) :
    k0_pay10 (F := Ideal) X CB (k0_pay5 (F := Ideal) CB) (ix3 0 0 l) = BitVec.ofNat 32 (near X CB l).val := by
  pointwise [k0_pay10]
  exact nearest_apply X CB l

/-- The one-hot matrix: column `l` is one at the nearest code's row and zero elsewhere. -/
theorem onehot_apply (X : FVec Ideal S1x1024x1280 .f32) (CB : FVec Ideal S1024x1024 .f32) (k : Fin 1024) (l : Fin 1280) :
    k0_pay11 (F := Ideal) X CB (k0_pay5 (F := Ideal) CB) (ix2 k l) = if k = near X CB l then (1 : EReal) else 0 := by
  pointwise [k0_pay11]
  rw [nearest_apply]
  have hk := k.isLt
  have hn := (near X CB l).isLt
  by_cases h : k = near X CB l
  · subst h
    rw [if_pos rfl]
    rw [show IntOp.cmpi .eq (BitVec.ofNat 32 (near X CB l).val) (BitVec.ofNat 32 (near X CB l).val) = 1#1 by
      simp [IntOp.cmpi]]
    show (((BitVec.setWidth 32 1#1).toInt : ℝ) : EReal) = 1
    norm_num
  · have : BitVec.ofNat 32 k.val ≠ BitVec.ofNat 32 (near X CB l).val := fun e => h (Fin.ext (by
      have := congrArg BitVec.toNat e
      simp only [BitVec.toNat_ofNat] at this
      omega))
    rw [if_neg h]
    rw [show IntOp.cmpi .eq (BitVec.ofNat 32 k.val) (BitVec.ofNat 32 (near X CB l).val) = 0#1 by
      rw [IntOp.cmpi, beq_eq_false_iff_ne.2 this]; rfl]
    show (((BitVec.setWidth 32 0#1).toInt : ℝ) : EReal) = 0
    norm_num

/-- The product of the transposed codes and the one-hot matrix: column `l` is the nearest code. -/
theorem code_apply (X : FVec Ideal S1x1024x1280 .f32) (CB : FVec Ideal S1024x1024 .f32)
    (CBT : FVec Ideal S1024x1024 .bf16) (c : Fin 1024) (l : Fin 1280) :
    k0_pay1 (F := Ideal) (k0_pay11 (F := Ideal) X CB (k0_pay5 (F := Ideal) CB)) CBT (ix2 c l) = CBT (ix2 c (near X CB l)) := by
  pointwise [k0_pay1]
  simp only [onehot_apply, mul_ite, mul_one, mul_zero]
  rw [Finset.sum_ite_eq' Finset.univ (near X CB l), if_pos (Finset.mem_univ _)]

/-- The quantised block: column `l` is the transposed codebook's column of the nearest code's number. -/
theorem quantised_apply (X : FVec Ideal S1x1024x1280 .f32) (CB : FVec Ideal S1024x1024 .f32)
    (CBT : FVec Ideal S1024x1024 .bf16) (c : Fin 1024) (l : Fin 1280) :
    k0_pay2 (F := Ideal) (k0_pay11 (F := Ideal) X CB (k0_pay5 (F := Ideal) CB)) CBT (ix3 0 c l) = CBT (ix2 c (near X CB l)) := by
  pointwise [k0_pay2]
  exact code_apply X CB CBT c l

/-- The reconstruction: the logistic function of the decoder's row times the nearest code. -/
theorem recon_apply (X : FVec Ideal S1x1024x1280 .f32) (CB : FVec Ideal S1024x1024 .f32)
    (CBT : FVec Ideal S1024x1024 .bf16) (W : FVec Ideal S1x1024 .f32) (l : Fin 1280) :
    k0_pay3 (F := Ideal) (k0_pay11 (F := Ideal) X CB (k0_pay5 (F := Ideal) CB)) CBT W (ix3 0 0 l)
      = Ideal.logistic (∑ c, W (ix2 0 c) * CBT (ix2 c (near X CB l))) := by
  pointwise [k0_pay3]
  simp only [code_apply]

/-- The named loss scale is 1/10485760, a quarter and one of 1/13107200. -/
theorem scale_eq : (Named.named (F := Ideal) (φ := .f32) κ "loss_scale" 0x33CCCCCD#32 : EReal) = ((1 / 10485760 : ℝ) : EReal) :=
  IdealRules.named_const.statement κ "loss_scale" .f32 0x33CCCCCD#32 _ rfl |>.2.2

/-- What the loss step adds, for any row of distances. -/
theorem add_scaled (V L : FVec Ideal S1x1280 .f32) (l : Fin 1280) :
    k0_pay4 (F := Ideal) V L (ix2 0 l)
      = L (ix2 0 l) + (Named.named (F := Ideal) (φ := .f32) κ "loss_scale" 0x33CCCCCD#32 : EReal) * V (ix2 0 l) := by
  pointwise [k0_pay4]

/-- The collected loss: to what stood there the least distance is added, scaled. -/
theorem loss_apply (X : FVec Ideal S1x1024x1280 .f32) (CB : FVec Ideal S1024x1024 .f32)
    (L : FVec Ideal S1x1280 .f32) (l : Fin 1280) :
    k0_pay4 (F := Ideal) (k0_pay8 (F := Ideal) X CB (k0_pay5 (F := Ideal) CB)) L (ix2 0 l)
      = L (ix2 0 l) + ((1 / 10485760 : ℝ) : EReal) * VQ.least (VQ.dist (codes CB) (col X l)) := by
  rw [add_scaled, least_apply, scale_eq]

/-- The loss starts at zero. -/
theorem start_apply (l : Fin 1280) : k0_pay6 (F := Ideal) (ix2 0 l) = 0 := by
  pointwise [k0_pay6]

end Cert.KernelIdeal
-- ==== Proof.Results.lean ====
/-
  The four results, as arrays over the arguments. Token `n` of the 12800 is position `(n / 80 % 80, n % 80)` of image
  `n / 6400`; its vector is the input's 1024 channels there.
-/
module

public import proofs.«01_k».proof.Proof.Spec

@[expose] public section

noncomputable section

namespace VQ

open Idealize.ShloMosaic

/-! The shapes of the input and of the quantised array, of the codebook, of the decoder, of the reconstruction, of the
indices and of the loss. -/
abbrev SX : Shape := ⟨4, ![2, 1024, 80, 80]⟩
abbrev SCB : Shape := ⟨2, ![1024, 1024]⟩
abbrev SW : Shape := ⟨2, ![1024, 1]⟩
abbrev SR : Shape := ⟨4, ![2, 1, 80, 80]⟩
abbrev SI : Shape := ⟨1, ![12800]⟩
abbrev SL : Shape := ⟨0, ![]⟩

/-- Token `n`'s vector. -/
def token (X : SX.Idx → EReal) (n : Fin 12800) (c : Fin 1024) : EReal :=
  X (ix4 ⟨n.val / 6400, by omega⟩ c ⟨n.val / 80 % 80, by omega⟩ ⟨n.val % 80, by omega⟩)

/-- The codes, one per row. -/
def codes (CB : SCB.Idx → EReal) (k c : Fin 1024) : EReal := CB (ix2 k c)

/-- The number of the code nearest to token `n`. -/
def code (X : SX.Idx → EReal) (CB : SCB.Idx → EReal) (n : Fin 12800) : Fin 1024 :=
  nearest (codes CB) (token X n)

/-- The token at a position of an image. -/
def tokenAt (b : Fin 2) (h w : Fin 80) : Fin 12800 := ⟨b.val * 6400 + h.val * 80 + w.val, by omega⟩

/-- The vector of the token at a position is the input's channels there. -/
theorem token_tokenAt (X : SX.Idx → EReal) (b : Fin 2) (h w : Fin 80) (c : Fin 1024) :
    token X (tokenAt b h w) c = X (ix4 b c h w) := by
  unfold token tokenAt
  congr 2
  all_goals (refine Fin.ext ?_; simp only; omega)

/-- The indices. -/
def indices (X : SX.Idx → EReal) (CB : SCB.Idx → EReal) : SI.Idx → BitVec 32 :=
  fun i => BitVec.ofNat 32 (code X CB (i 0)).val

/-- The quantised array: at every position the nearest code's channel. -/
def quantised (X : SX.Idx → EReal) (CB : SCB.Idx → EReal) : SX.Idx → EReal :=
  fun i => codes CB (code X CB (tokenAt (i 0) (i 2) (i 3))) (i 1)

/-- The reconstruction: the logistic function of the decoder's row times the nearest code. -/
def recon (X : SX.Idx → EReal) (CB : SCB.Idx → EReal) (W : SW.Idx → EReal) : SR.Idx → EReal :=
  fun i => Ideal.logistic (∑ c, W (ix2 c 0) * codes CB (code X CB (tokenAt (i 0) (i 2) (i 3))) c)

/-- The loss: every token's least distance, each by 1/10485760. -/
def loss (X : SX.Idx → EReal) (CB : SCB.Idx → EReal) : SL.Idx → EReal :=
  fun _ => ∑ n, ((1 / 10485760 : ℝ) : EReal) * least (dist (codes CB) (token X n))

end VQ
-- ==== Proof.Inputs.lean ====
/-
  What a grid point reads: its block of the input is 1280 consecutive tokens; the codebook, the transposed codebook and
  the decoder's row arrive whole.
-/
module

public import proofs.«01_k».proof.Proof.Block
public import proofs.«01_k».proof.Proof.Results
public import proofs.«01_k».proof.Proof.Gen.KernelIdeal.Frame
public import Idealize.ShloMosaic.Lib.Pipeline.ValueKit

@[expose] public section

set_option maxRecDepth 16384

noncomputable section

namespace Cert.KernelIdeal

open Idealize.ShloMosaic Idealize.ShloMosaic.TcCoe Idealize.SL.Sem Cert.KernelIdeal.Gen

variable (m : (ℓ : Loc nD τ sig) → Buf (Elt Ideal) ℓ)

/-- The input a device holds. -/
abbrev input (c : Dev nD) : FVec Ideal S2x1024x80x80 .f32 := m ((c : Thread nD τ).loc main_arg0)

/-- The codebook a device holds. -/
abbrev codebook (c : Dev nD) : FVec Ideal S1024x1024 .f32 := m ((c : Thread nD τ).loc main_arg1)

/-- The decoder's weights a device holds. -/
abbrev weights (c : Dev nD) : FVec Ideal S1024x1 .f32 := m ((c : Thread nD τ).loc main_arg2)

/-- Which block of each array a grid point takes. -/
theorem idx : ∀ t : Fin cfg0.N,
    win0_0.index t = ![t.val / 5, 0, t.val % 5] ∧ win0_1.index t = ![0, 0] ∧ win0_2.index t = ![0, 0]
      ∧ win0_3.index t = ![0, 0] ∧ win0_4.index t = ![t.val / 5, 0, t.val % 5]
      ∧ win0_5.index t = ![t.val / 5, 0, t.val % 5] ∧ win0_6.index t = ![t.val / 5, 0, t.val % 5]
      ∧ win0_7.index t = ![0, 0] :=
  (by decide +kernel : ∀ t : Fin grid0.N, _)

/-- The token in column `l` of grid point `t`'s block. -/
def tok (t : Fin cfg0.N) (l : Fin 1280) : Fin 12800 :=
  ⟨1280 * t.val + l.val, by have := lt_of_lt_of_eq t.isLt N_0; omega⟩

/-- The input as the kernel takes it: the two image axes as one. -/
theorem V_v0 (c : Dev nD) : V m c main_v0
    = (shapeCast S2x1024x6400 (input m c) shapeCasts_S2x1024x80x80_S2x1024x6400 : FVec Ideal S2x1024x6400 .f32) := by
  unfold V
  rfl

/-- The codebook's transpose, narrowed. -/
theorem V_v2 (c : Dev nD) : V m c main_v2
    = (truncf (F := Ideal) .bf16 (transpose S1024x1024 [1, 0] (codebook m c) transposes_S1024x1024_S1024x1024_1_0)
        bitsLt_bf16_f32 : FVec Ideal S1024x1024 .bf16) := by
  unfold V
  rfl

/-- The decoder's column as a row. -/
theorem V_v3 (c : Dev nD) : V m c main_v3
    = (shapeCast S1x1024 (weights m c) shapeCasts_S1024x1_S1x1024 : FVec Ideal S1x1024 .f32) := by
  unfold V
  rfl

/-- Column `l` of point `t`'s input block is its token's vector. -/
theorem block_apply (c : Dev nD) (t : Fin cfg0.N) (k : Fin 1024) (l : Fin 1280) :
    (show FVec Ideal S1x1024x1280 .f32 from iblk m c 0 t) (ix3 0 k l) = VQ.token (input m c) (tok t l) k := by
  have ht := lt_of_lt_of_eq t.isLt N_0
  show iblk m c 0 t (ix3 0 k l) = _
  unfold VQ.token tok
  blk_simp [iblk]
  rw [V_v0]
  pointwise
  blk_ext [idx t]

/-- The codebook's block is the codebook. -/
theorem codebook_block (c : Dev nD) (t : Fin cfg0.N) : iblk m c 1 t = codebook m c := by
  funext i
  blk_simp [iblk, V]
  blk_ext [idx t]

/-- The transposed codebook's block, read at `(k, l)`, is the codebook at `(l, k)`. -/
theorem codesT_block (c : Dev nD) (t : Fin cfg0.N) (k l : Fin 1024) :
    (show FVec Ideal S1024x1024 .bf16 from iblk m c 2 t) (ix2 k l) = codebook m c (ix2 l k) := by
  show iblk m c 2 t (ix2 k l) = _
  blk_simp [iblk]
  rw [V_v2]
  pointwise
  blk_ext [idx t]

/-- The row's block holds the decoder's weights. -/
theorem weights_block (c : Dev nD) (t : Fin cfg0.N) (k : Fin 1024) :
    (show FVec Ideal S1x1024 .f32 from iblk m c 3 t) (ix2 0 k) = weights m c (ix2 k 0) := by
  show iblk m c 3 t (ix2 0 k) = _
  blk_simp [iblk]
  rw [V_v3]
  pointwise
  blk_ext [idx t]

end Cert.KernelIdeal
-- ==== Proof.Points.lean ====
/-
  What each grid point leaves: the first point stores the codes' square norms, which every later point finds; so every
  point's blocks are the same function of what it reads.
-/
module

public import proofs.«01_k».proof.Proof.Inputs

@[expose] public section

set_option maxRecDepth 16384

noncomputable section

namespace Cert.KernelIdeal

open Idealize.ShloMosaic Idealize.ShloMosaic.TcCoe Idealize.SL.Sem Cert.KernelIdeal.Gen

variable (m : (ℓ : Loc nD τ sig) → Buf (Elt Ideal) ℓ)

/-- What is read back from the carried buffer is what was stored in it. -/
theorem carried (h : (scM0_0).IsWhole) (S : FVec Ideal S1024x1 .f32) :
    View.read (Elt Ideal) (View.whole cc0_scratch0) (h.unread S) = S :=
  h.read_unread (Val := Elt Ideal) S

/-- The first point stores the codebook's norms. -/
theorem norms_first (c : Dev nD) (t : Fin cfg0.N) (h : t.val % 10 = 0) :
    (outsAt0 m c t.val t.isLt).2.2.2.2 = k0_pay5 (F := Ideal) (codebook m c) := by
  funext j
  rw [outsAt0_A m c t h]
  frame_out
  rw [codebook_block]

/-- A later point leaves the norms as it finds them. -/
theorem norms_later (c : Dev nD) (t : Fin cfg0.N) (h : ¬t.val % 10 = 0) :
    (outsAt0 m c t.val t.isLt).2.2.2.2
      = (outsAt0 m c (t.val - 1) (Nat.lt_of_le_of_lt (Nat.sub_le _ _) t.isLt)).2.2.2.2 := by
  rw [outsAt0_B m c t h]
  dsimp only
  unfold sout0_B_0
  rfl

/-- The carried norms are the codebook's at every point. -/
theorem norms_at (c : Dev nD) (n : ℕ) : ∀ h : n < cfg0.N,
    (outsAt0 m c n h).2.2.2.2 = k0_pay5 (F := Ideal) (codebook m c) := by
  induction n with
  | zero => exact fun h => norms_first m c ⟨0, h⟩ (Nat.zero_mod _)
  | succ n ih =>
    intro h
    have hlt : n + 1 < 10 := lt_of_lt_of_eq h N_0
    have hne : ¬(n + 1) % 10 = 0 := by omega
    exact (norms_later m c ⟨n + 1, h⟩ hne).trans (ih _)

/-- The quantised block. -/
theorem quant_at (c : Dev nD) (t : Fin cfg0.N) : (outsAt0 m c t.val t.isLt).1
    = k0_pay2 (F := Ideal) (k0_pay11 (F := Ideal) (iblk m c 0 t) (codebook m c) (k0_pay5 (F := Ideal) (codebook m c)))
        (iblk m c 2 t) := by
  funext j
  by_cases h : t.val % 10 = 0
  · rw [outsAt0_A m c t h]
    frame_out
    rw [codebook_block]
  · rw [outsAt0_B m c t h]
    frame_out
    rw [carried, norms_at, codebook_block]

/-- The reconstruction's block. -/
theorem recon_at (c : Dev nD) (t : Fin cfg0.N) : (outsAt0 m c t.val t.isLt).2.1
    = k0_pay3 (F := Ideal) (k0_pay11 (F := Ideal) (iblk m c 0 t) (codebook m c) (k0_pay5 (F := Ideal) (codebook m c)))
        (iblk m c 2 t) (iblk m c 3 t) := by
  funext j
  by_cases h : t.val % 10 = 0
  · rw [outsAt0_A m c t h]
    frame_out
    rw [codebook_block]
  · rw [outsAt0_B m c t h]
    frame_out
    rw [carried, norms_at, codebook_block]

/-- The indices' block. -/
theorem index_at (c : Dev nD) (t : Fin cfg0.N) : (outsAt0 m c t.val t.isLt).2.2.1
    = k0_pay10 (F := Ideal) (iblk m c 0 t) (codebook m c) (k0_pay5 (F := Ideal) (codebook m c)) := by
  funext j
  by_cases h : t.val % 10 = 0
  · rw [outsAt0_A m c t h]
    frame_out
    rw [codebook_block]
  · rw [outsAt0_B m c t h]
    frame_out
    rw [carried, norms_at, codebook_block]

/-- The loss after the first point: its block's, added to zeros. -/
theorem loss_first (c : Dev nD) (t : Fin cfg0.N) (h : t.val % 10 = 0) : (outsAt0 m c t.val t.isLt).2.2.2.1
    = k0_pay4 (F := Ideal) (k0_pay8 (F := Ideal) (iblk m c 0 t) (codebook m c) (k0_pay5 (F := Ideal) (codebook m c)))
        (k0_pay6 (F := Ideal)) := by
  funext j
  rw [outsAt0_A m c t h]
  frame_out
  rw [codebook_block]

/-- The loss after a later point: its block's, added to what the point before left. -/
theorem loss_later (c : Dev nD) (t : Fin cfg0.N) (h : ¬t.val % 10 = 0) : (outsAt0 m c t.val t.isLt).2.2.2.1
    = k0_pay4 (F := Ideal) (k0_pay8 (F := Ideal) (iblk m c 0 t) (codebook m c) (k0_pay5 (F := Ideal) (codebook m c)))
        (outsAt0 m c (t.val - 1) (Nat.lt_of_le_of_lt (Nat.sub_le _ _) t.isLt)).2.2.2.1 := by
  funext j
  rw [outsAt0_B m c t h]
  frame_out
  rw [carried, norms_at, codebook_block]

end Cert.KernelIdeal
-- ==== Proof.Arrays.lean ====
/-
  What the kernel's four arrays hold when its grid is through: every position of the first three is its token's nearest
  code, reconstruction or index, and lane `l` of the fourth is the loss of the ten tokens that lane saw.
-/
module

public import proofs.«01_k».proof.Proof.Points

@[expose] public section

set_option maxRecDepth 16384

noncomputable section

namespace Cert.KernelIdeal

open Idealize.ShloMosaic Idealize.ShloMosaic.TcCoe Idealize.SL.Sem Cert.KernelIdeal.Gen

variable (m : (ℓ : Loc nD τ sig) → Buf (Elt Ideal) ℓ)

/-- The token at position `p` of image `b`. -/
def flat (b : Fin 2) (p : Fin 6400) : Fin 12800 := ⟨b.val * 6400 + p.val, by omega⟩

/-- The column's nearest code is its token's. -/
theorem near_block (c : Dev nD) (t : Fin cfg0.N) (l : Fin 1280) :
    near (iblk m c 0 t) (codebook m c) l = VQ.code (input m c) (codebook m c) (tok t l) := by
  unfold near VQ.code
  exact congrArg (VQ.nearest _) (funext fun k => block_apply m c t k l)

/-- Column `l` of the quantised block holds its token's nearest code. -/
theorem quant_point (c : Dev nD) (t : Fin cfg0.N) (k : Fin 1024) (l : Fin 1280) :
    (outsAt0 m c t.val t.isLt).1 (ix3 0 k l)
      = VQ.codes (codebook m c) (VQ.code (input m c) (codebook m c) (tok t l)) k := by
  rw [quant_at, quantised_apply, near_block]
  exact codesT_block m c t k _

/-- Entry `l` of the reconstruction's block is its token's reconstruction. -/
theorem recon_point (c : Dev nD) (t : Fin cfg0.N) (l : Fin 1280) :
    (outsAt0 m c t.val t.isLt).2.1 (ix3 0 0 l) = Ideal.logistic (∑ k, weights m c (ix2 k 0)
      * VQ.codes (codebook m c) (VQ.code (input m c) (codebook m c) (tok t l)) k) := by
  rw [recon_at, recon_apply, near_block]
  refine congrArg Ideal.logistic (Finset.sum_congr rfl fun k _ => ?_)
  exact congrArg₂ (· * ·) (weights_block m c t k) (codesT_block m c t k _)

/-- Entry `l` of the indices' block is its token's index. -/
theorem index_point (c : Dev nD) (t : Fin cfg0.N) (l : Fin 1280) :
    (outsAt0 m c t.val t.isLt).2.2.1 (ix3 0 0 l)
      = BitVec.ofNat 32 (VQ.code (input m c) (codebook m c) (tok t l)).val := by
  rw [index_at, index_apply, near_block]

/-- A column's share of the loss. -/
def share (c : Dev nD) (t : Fin cfg0.N) (l : Fin 1280) : EReal :=
  ((1 / 10485760 : ℝ) : EReal) * VQ.least (VQ.dist (VQ.codes (codebook m c)) (VQ.token (input m c) (tok t l)))

/-- What a point adds to a lane is its column's share. -/
theorem share_eq (c : Dev nD) (t : Fin cfg0.N) (l : Fin 1280) :
    ((1 / 10485760 : ℝ) : EReal) * VQ.least (VQ.dist (codes (codebook m c)) (col (iblk m c 0 t) l)) = share m c t l := by
  have h : col (iblk m c 0 t) l = VQ.token (input m c) (tok t l) := funext fun k => block_apply m c t k l
  rw [h]
  rfl

/-- After the first point a lane holds that point's share. -/
theorem loss_point_first (c : Dev nD) (t : Fin cfg0.N) (h : t.val % 10 = 0) (l : Fin 1280) :
    (outsAt0 m c t.val t.isLt).2.2.2.1 (ix2 0 l) = (0 : EReal) + share m c t l := by
  rw [loss_first m c t h, loss_apply, start_apply, share_eq]

/-- A later point adds its share to what the lane held. -/
theorem loss_point_later (c : Dev nD) (t : Fin cfg0.N) (h : ¬t.val % 10 = 0) (l : Fin 1280) :
    (outsAt0 m c t.val t.isLt).2.2.2.1 (ix2 0 l)
      = ((outsAt0 m c (t.val - 1) (Nat.lt_of_le_of_lt (Nat.sub_le _ _) t.isLt)).2.2.2.1 (ix2 0 l) : EReal)
        + share m c t l := by
  rw [loss_later m c t h, loss_apply, share_eq]

/-- The quantised array, images flat. -/
def quant3 (c : Dev nD) : FVec Ideal S2x1024x6400 .f32 :=
  fun i => VQ.codes (codebook m c) (VQ.code (input m c) (codebook m c) (flat (i 0) (i 2))) (i 1)

/-- The reconstruction, images flat. -/
def recon3 (c : Dev nD) : FVec Ideal S2x1x6400 .f32 :=
  fun i => Ideal.logistic (∑ k, weights m c (ix2 k 0)
    * VQ.codes (codebook m c) (VQ.code (input m c) (codebook m c) (flat (i 0) (i 2))) k)

/-- The indices, images flat. -/
def index3 (c : Dev nD) : S2x1x6400.Idx → BitVec 32 :=
  fun i => BitVec.ofNat 32 (VQ.code (input m c) (codebook m c) (flat (i 0) (i 2))).val

/-- A position of block `t` is its column's token. -/
theorem flat_eq (t : Fin cfg0.N) (l : Fin 1280) (b : Fin 2) (p : Fin 6400) (hb : b.val = t.val / 5)
    (hp : p.val = t.val % 5 * 1280 + l.val) : flat b p = tok t l := by
  refine Fin.ext ?_
  show b.val * 6400 + p.val = 1280 * t.val + l.val
  omega

/-- The flat quantised array at the position where block `t` puts channel `k` of its column `l`. -/
theorem quant3_at (c : Dev nD) (j : S2x1024x6400.Idx) (t : Fin cfg0.N) (k : Fin 1024) (l : Fin 1280)
    (h0 : (j 0 : ℕ) = t.val / 5) (h1 : (j 1 : ℕ) = k.val) (h2 : (j 2 : ℕ) = t.val % 5 * 1280 + l.val) :
    quant3 m c j = VQ.codes (codebook m c) (VQ.code (input m c) (codebook m c) (tok t l)) k := by
  unfold quant3
  rw [flat_eq t l (j 0) (j 2) h0 h2, show j 1 = k from Fin.ext h1]

/-- The flat reconstruction at the position where block `t` puts its column `l`. -/
theorem recon3_at (c : Dev nD) (j : S2x1x6400.Idx) (t : Fin cfg0.N) (l : Fin 1280)
    (h0 : (j 0 : ℕ) = t.val / 5) (h2 : (j 2 : ℕ) = t.val % 5 * 1280 + l.val) :
    recon3 m c j = Ideal.logistic (∑ k, weights m c (ix2 k 0)
      * VQ.codes (codebook m c) (VQ.code (input m c) (codebook m c) (tok t l)) k) := by
  unfold recon3
  rw [flat_eq t l (j 0) (j 2) h0 h2]

/-- The flat indices at the position where block `t` puts its column `l`. -/
theorem index3_at (c : Dev nD) (j : S2x1x6400.Idx) (t : Fin cfg0.N) (l : Fin 1280)
    (h0 : (j 0 : ℕ) = t.val / 5) (h2 : (j 2 : ℕ) = t.val % 5 * 1280 + l.val) :
    index3 m c j = BitVec.ofNat 32 (VQ.code (input m c) (codebook m c) (tok t l)).val := by
  unfold index3
  rw [flat_eq t l (j 0) (j 2) h0 h2]

/-- The first output array ends as the quantised array. -/
theorem final_quant (c : Dev nD) : (dats m 0 c).arrAt 4 (cfgs 0).N = quant3 m c := by
  refine (dats m 0 c).arrAt_eq_of_covers 4 (quant3 m c) (by decide +kernel) fun t hf y => ?_
  blk_simp
  rw [after0_4]
  revert y
  intro (y : S1x1024x1280.Idx)
  idx_vars y
  obtain rfl : y0 = 0 := Subsingleton.elim _ _
  refine (quant_point m c t y1 y2).trans (quant3_at m c _ t y1 y2 ?_ ?_ ?_).symm
  all_goals (blk_simp [idx t] <;> try omega)

/-- The second output array ends as the reconstruction. -/
theorem final_recon (c : Dev nD) : (dats m 0 c).arrAt 5 (cfgs 0).N = recon3 m c := by
  refine (dats m 0 c).arrAt_eq_of_covers 5 (recon3 m c) (by decide +kernel) fun t hf y => ?_
  blk_simp
  rw [after0_5]
  revert y
  intro (y : S1x1x1280.Idx)
  idx_vars y
  obtain rfl : y0 = 0 := Subsingleton.elim _ _
  obtain rfl : y1 = 0 := Subsingleton.elim _ _
  refine (recon_point m c t y2).trans (recon3_at m c _ t y2 ?_ ?_).symm
  all_goals (blk_simp [idx t] <;> try omega)

/-- The third output array ends as the indices. -/
theorem final_index (c : Dev nD) : (dats m 0 c).arrAt 6 (cfgs 0).N = index3 m c := by
  refine (dats m 0 c).arrAt_eq_of_covers 6 (index3 m c) (by decide +kernel) fun t hf y => ?_
  blk_simp
  rw [after0_6]
  revert y
  intro (y : S1x1x1280.Idx)
  idx_vars y
  obtain rfl : y0 = 0 := Subsingleton.elim _ _
  obtain rfl : y1 = 0 := Subsingleton.elim _ _
  refine (index_point m c t y2).trans (index3_at m c _ t y2 ?_ ?_).symm
  all_goals (blk_simp [idx t] <;> try omega)

/-- The loss lane by lane: each lane's ten shares. -/
def loss2 (c : Dev nD) : FVec Ideal S1x1280 .f32 := fun i => ∑ t : Fin cfg0.N, share m c t (i 1)

/-- After point `n` lane `l` holds the shares of the points so far. -/
theorem loss_upto (c : Dev nD) (l : Fin 1280) (n : ℕ) : ∀ h : n < cfg0.N,
    ((outsAt0 m c n h).2.2.2.1 (ix2 0 l) : EReal)
      = ∑ t : Fin (n + 1), share m c ⟨t.val, lt_of_lt_of_le t.isLt h⟩ l := by
  induction n with
  | zero =>
    intro h
    refine (loss_point_first m c ⟨0, h⟩ (Nat.zero_mod _) l).trans ?_
    rw [Fin.sum_univ_one, zero_add]
    rfl
  | succ n ih =>
    intro h
    have hlt : n + 1 < 10 := lt_of_lt_of_eq h N_0
    have hne : ¬(n + 1) % 10 = 0 := by omega
    refine (loss_point_later m c ⟨n + 1, h⟩ hne l).trans ?_
    rw [Fin.sum_univ_castSucc]
    exact congrArg (· + share m c ⟨n + 1, h⟩ l) (ih (Nat.lt_of_succ_lt h))

/-- The shares of all the points add up to the lane's loss. -/
theorem loss2_at (c : Dev nD) (j : S1x1280.Idx) (l : Fin 1280) (n : ℕ) (hn : n + 1 = cfg0.N) (h1 : (j 1 : ℕ) = l.val) :
    ∑ t : Fin (n + 1), share m c ⟨t.val, lt_of_lt_of_eq t.isLt hn⟩ l = loss2 m c j := by
  unfold loss2
  rw [show j 1 = l from Fin.ext h1]
  exact Fintype.sum_equiv (finCongr hn) _ _ fun _ => rfl

/-- The fourth output array ends as the lanes' losses. -/
theorem final_loss (c : Dev nD) : (dats m 0 c).arrAt 7 (cfgs 0).N = loss2 m c := by
  refine (dats m 0 c).arrAt_eq_of_covers 7 (loss2 m c) (by decide +kernel) fun t hf y => ?_
  have h9 : t.val % 10 = 9 := (flush0_7 t).mp hf
  have ht : t.val = 9 := by have := lt_of_lt_of_eq t.isLt N_0; omega
  blk_simp
  rw [after0_7]
  revert y
  intro (y : S1x1280.Idx)
  idx_vars y
  obtain rfl : y0 = 0 := Subsingleton.elim _ _
  refine (loss_upto m c y1 t.val t.isLt).trans ?_
  refine loss2_at m c _ y1 t.val (by rw [ht]; exact N_0.symm) ?_
  blk_simp [idx t] <;> try omega

end Cert.KernelIdeal
-- ==== Proof.KernelResults.lean ====
/-
  The kernel's run and its four results: the arrays the grid leaves, reshaped by the operations after it, and the loss
  lanes added up.
-/
module

public import proofs.«01_k».proof.Proof.Arrays
public import Idealize.ShloMosaic.Lib.Claim

@[expose] public section

set_option maxRecDepth 16384

noncomputable section

namespace Cert.KernelIdeal

open Idealize.ShloMosaic Idealize.ShloMosaic.TcCoe Idealize.SL.Sem Cert.KernelIdeal.Gen

variable (m : (ℓ : Loc nD τ sig) → Buf (Elt Ideal) ℓ) (g : Dev nD → PrngReg)

/-- A position of an image, flat and not, is one token. -/
theorem flat_tokenAt (b : Fin 2) (h w : Fin 80) (hp : h.val * 80 + w.val < 6400) :
    flat b ⟨h.val * 80 + w.val, hp⟩ = VQ.tokenAt b h w :=
  Fin.ext (Nat.add_assoc _ _ _).symm

/-- A token is the position of its image it stands at. -/
theorem flat_div (n : Fin 12800) (h1 : n.val / 6400 < 2) (h2 : n.val % 6400 < 6400) :
    flat ⟨n.val / 6400, h1⟩ ⟨n.val % 6400, h2⟩ = n :=
  Fin.ext (Nat.div_add_mod' _ _)

/-- The quantised array, its images unflattened, is the specification's. -/
theorem quant_result (c : Dev nD) :
    (shapeCast S2x1024x80x80 (quant3 m c) shapeCasts_S2x1024x6400_S2x1024x80x80 : FVec Ideal S2x1024x80x80 .f32)
      = VQ.quantised (input m c) (codebook m c) := by
  funext i
  idx_vars i
  pointwise
  show VQ.codes _ (VQ.code _ _ (flat i0 ⟨i2.val * 80 + i3.val, _⟩)) i1
    = VQ.codes _ (VQ.code _ _ (VQ.tokenAt i0 i2 i3)) i1
  rw [flat_tokenAt]

/-- The reconstruction, its images unflattened, is the specification's. -/
theorem recon_result (c : Dev nD) :
    (shapeCast S2x1x80x80 (recon3 m c) shapeCasts_S2x1x6400_S2x1x80x80 : FVec Ideal S2x1x80x80 .f32)
      = VQ.recon (input m c) (codebook m c) (weights m c) := by
  funext i
  idx_vars i
  pointwise
  show Ideal.logistic (∑ k, weights m c (ix2 k 0) * VQ.codes _ (VQ.code _ _ (flat i0 ⟨i2.val * 80 + i3.val, _⟩)) k)
    = Ideal.logistic (∑ k, weights m c (ix2 k 0) * VQ.codes _ (VQ.code _ _ (VQ.tokenAt i0 i2 i3)) k)
  rw [flat_tokenAt]

/-- The indices in one line are the specification's. -/
theorem index_result (c : Dev nD) :
    (shapeCast S12800 (index3 m c) shapeCasts_S2x1x6400_S12800 : S12800.Idx → BitVec 32)
      = VQ.indices (input m c) (codebook m c) := by
  funext i
  idx_vars i
  pointwise
  show BitVec.ofNat 32 (VQ.code _ _ (flat ⟨i0.val / 6400, _⟩ ⟨i0.val % 6400, _⟩)).val
    = BitVec.ofNat 32 (VQ.code _ _ i0).val
  rw [flat_div]

/-- The tokens counted block by block. -/
theorem tok_eq (t : Fin cfg0.N) (l : Fin 1280) (h : t.val * 1280 + l.val < 12800) :
    (⟨t.val * 1280 + l.val, h⟩ : Fin 12800) = tok t l :=
  Fin.ext (congrArg (· + l.val) (Nat.mul_comm _ _))

/-- A sum over the blocks and their columns is a sum over the tokens. -/
theorem sum_tok (f : Fin 12800 → EReal) : ∑ t : Fin cfg0.N, ∑ l : Fin 1280, f (tok t l) = ∑ n, f n := by
  refine Eq.trans ?_ (Fin.sum_univ_tiles cfg0.N 1280 (congrArg (· * 1280) N_0) f).symm
  exact Finset.sum_congr rfl fun t _ => Finset.sum_congr rfl fun l _ => congrArg f (tok_eq t l _).symm

/-- The lanes' losses add up to the specification's loss. -/
theorem loss_result (c : Dev nD) :
    (Host.reduceAdd (F := Ideal) (loss2 m c) (constant (F := Ideal) S_ .f32 0x00000000#32) reducesTo_S1x1280_S_d0_1 h_S_
      : FVec Ideal S_ .f32) = VQ.loss (input m c) (codebook m c) := by
  funext i
  pointwise
  rw [Fin.sum_univ_one]
  show ∑ l : Fin 1280, ∑ t : Fin cfg0.N, share m c t l = _
  rw [Finset.sum_comm]
  exact sum_tok fun n => ((1 / 10485760 : ℝ) : EReal)
    * VQ.least (VQ.dist (VQ.codes (codebook m c)) (VQ.token (input m c) n))

/-- What the operations after the grid find in the array of window `w`. -/
theorem array_after (c : Dev nD) (w : Fin cfg0.W) :
    Pipeline.withArrays spec0 c (V0 m c) (fun w => (dats m 0 c).arrAt w (cfgs 0).N)
      (Proc.devRef .tc (Pipeline.arrRef spec0 w)) = (dats m 0 c).arrAt w (cfgs 0).N :=
  Pipeline.withArrays_arr spec0 (by decide) c _ _ w

/-- Every run of the kernel ends with the four results of the specification, its arguments unchanged. -/
theorem run :
    θ_run (defs (F := Ideal)) (onTc (τ := τ) (main (F := Ideal))) ⟨m, fun _ => 0, g⟩ (fun r => ∀ c : Dev nD,
      r.2.mem ((c.tc : Thread nD τ).loc main_v6) = VQ.recon (input m c) (codebook m c) (weights m c)
      ∧ r.2.mem ((c.tc : Thread nD τ).loc main_v7) = VQ.quantised (input m c) (codebook m c)
      ∧ r.2.mem ((c.tc : Thread nD τ).loc main_v5) = VQ.loss (input m c) (codebook m c)
      ∧ r.2.mem ((c.tc : Thread nD τ).loc main_v8) = VQ.indices (input m c) (codebook m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m g
  · exact (congrArg (fun A : FVec Ideal S2x1x6400 .f32 => shapeCast S2x1x80x80 A shapeCasts_S2x1x6400_S2x1x80x80)
      ((array_after m c 5).trans (final_recon m c))).trans (recon_result m c)
  · exact (congrArg (fun A : FVec Ideal S2x1024x6400 .f32 =>
      shapeCast S2x1024x80x80 A shapeCasts_S2x1024x6400_S2x1024x80x80)
      ((array_after m c 4).trans (final_quant m c))).trans (quant_result m c)
  · exact (congrArg (fun A : FVec Ideal S1x1280 .f32 => (Host.reduceAdd (F := Ideal) A
      (constant (F := Ideal) S_ .f32 0x00000000#32) reducesTo_S1x1280_S_d0_1 h_S_ : FVec Ideal S_ .f32))
      ((array_after m c 7).trans (final_loss m c))).trans (loss_result m c)
  · exact (congrArg (fun A : S2x1x6400.Idx → BitVec 32 => shapeCast S12800 A shapeCasts_S2x1x6400_S12800)
      ((array_after m c 6).trans (final_index m c))).trans (index_result m c)
  · exact W_main_arg0 m (dats m) c
  · exact W_main_arg2 m (dats m) c

end Cert.KernelIdeal
-- ==== Proof.RefOps.lean ====
/-
  The reference's run: @main is a straight line of host operations once its calls are opened — the arg-min over the
  codes, the table look-up and the look-up's select of negative indices. The line is cut in four, and what each part
  leaves in the buffers that the next part reads is stated as a value.
-/
module

public import Idealize.ShloMosaic.Lib.StableHlo.Run
public import Idealize.ShloMosaic.Lib.StableHlo.RunHlo
public import proofs.«01_k».proof.Proof.Gen.ReferenceIdeal

@[expose] public section

set_option maxRecDepth 16384

noncomputable section

namespace Cert.ReferenceIdeal.Hand

open Idealize.ShloMosaic Idealize.ShloMosaic.StableHlo Idealize.SL.Sem Cert.ReferenceIdeal Cert.ReferenceIdeal.Gen

variable {F : FTy → Type} [FloatOps F]

/-! ## The values -/

/-- The input with its channels last, one row per token. -/
def tokens (X : FVec F S2x1024x80x80 .f32) : FVec F S12800x1024 .f32 :=
  shapeCast S12800x1024 (transpose S2x80x80x1024 [0, 2, 3, 1] X transposes_S2x1024x80x80_S2x80x80x1024_0_2_3_1)
    shapeCasts_S2x80x80x1024_S12800x1024

/-- The squared distance of every token to every code. -/
def distances (Z : FVec F S12800x1024 .f32) (CB : FVec F S1024x1024 .f32) : FVec F S12800x1024 .f32 :=
  addf
    (subf
      (broadcastInDim S12800x1024 ![0, 1] bcast_S12800x1_S12800x1024_0_1
        (broadcastInDim S12800x1 ![0] bcast_S12800_S12800x1_0
          (Host.reduceAdd (mulf Z Z) (constant S_ .f32 0x00000000#32) reducesTo_S12800x1024_S12800_d1 h_S_)))
      (mulf (broadcastInDim S12800x1024 ![] bcast_S_S12800x1024 (constant S_ .f32 0x40000000#32))
        (Host.dotGeneral dot_S12800x1024_S1024x1024_S12800x1024_1_0_0_1_n_n none Z
          (transpose S1024x1024 [1, 0] CB transposes_S1024x1024_S1024x1024_1_0))))
    (broadcastInDim S12800x1024 ![0, 1] bcast_S1x1024_S12800x1024_0_1
      (broadcastInDim S1x1024 ![1] bcast_S1024_S1x1024_1
        (Host.reduceAdd (mulf CB CB) (constant S_ .f32 0x00000000#32) reducesTo_S1024x1024_S1024_d1 h_S_)))

/-- The arg-min of every row. -/
def argmins (D : FVec F S12800x1024 .f32) : IVec S12800 32 := fun j =>
  (Host.argReduce reducer_argmin_f32_i32 D (iotaInDim S12800x1024 32 1) (constant S_ .f32 0x7F800000#32)
    (constantI S_ 32 0#32) reducesTo_S12800x1024_S12800_d1 h_S_ j).2

/-- The indices the look-up reads at: a negative one counted from the end. -/
def wrapped (I : IVec S12800 32) : IVec S12800x1 32 :=
  broadcastInDim S12800x1 ![0] bcast_S12800_S12800x1_0
    (select (cmpi .slt I (broadcastInDim S12800 ![] bcast_S_S12800 (constantI S_ 32 0#32)))
      (addi I (broadcastInDim S12800 ![] bcast_S_S12800 (constantI S_ 32 1024#32))) I)

/-- Which of those indices are in range. -/
def inRange (J : IVec S12800x1 32) : IVec S12800 1 :=
  Host.reduce IntOp.andi
    (andi (cmpi .sge J (broadcastInDim S12800x1 ![] bcast_S_S12800x1 (constantI S_ 32 0#32)))
      (cmpi .sle J (broadcastInDim S12800x1 ![0, 1] bcast_S1x1_S12800x1_0_1
        (broadcastInDim S1x1 ![1] bcast_S1_S1x1_1 (constantI S1 32 1023#32)))))
    (constantI S_ 1 1#1) reducesTo_S12800x1_S12800_d1 h_S_

/-- The codes looked up: the row at the index, or a filler where the index is out of range. -/
def looked (CB : FVec F S1024x1024 .f32) (I : IVec S12800 32) : FVec F S12800x1024 .f32 :=
  select (broadcastInDim S12800x1024 ![0] bcast_S12800_S12800x1024_0 (inRange (wrapped I)))
    (Host.gather gather_S1024x1024_S12800x1_S12800x1024_1_0_n_n_0_1_11024 CB (wrapped I))
    (broadcastInDim S12800x1024 ![] bcast_S_S12800x1024 (constant S_ .f32 0x7FC00000#32))

/-- The mean of the squared differences. -/
def meanSq (Z Q : FVec F S12800x1024 .f32) : FVec F S_ .f32 :=
  Host.divf (Host.reduceAdd (mulf (subf Q Z) (subf Q Z)) (constant S_ .f32 0x00000000#32)
    reducesTo_S12800x1024_S_d0_1 h_S_) (constant S_ .f32 0x4B480000#32)

/-- The loss: a quarter of the mean and the mean. -/
def loss (Z Q : FVec F S12800x1024 .f32) : FVec F S_ .f32 :=
  addf (mulf (constant S_ .f32 0x3E800000#32) (meanSq Z Q)) (meanSq Z Q)

/-- The quantised array, channels back in their place. -/
def quantised (Z Q : FVec F S12800x1024 .f32) : FVec F S2x1024x80x80 .f32 :=
  transpose S2x1024x80x80 [0, 3, 1, 2]
    (shapeCast S2x80x80x1024 (addf Z (subf Q Z)) shapeCasts_S12800x1024_S2x80x80x1024)
    transposes_S2x80x80x1024_S2x1024x80x80_0_3_1_2

/-- The reconstruction: the decoder's row against the channels, then one over one plus the exponential of its negative. -/
def recon (W : FVec F S1024x1 .f32) (Q : FVec F S2x1024x80x80 .f32) : FVec F S2x1x80x80 .f32 :=
  Host.divf (broadcastInDim S2x1x80x80 ![] bcast_S_S2x1x80x80 (constant S_ .f32 0x3F800000#32))
    (addf (broadcastInDim S2x1x80x80 ![] bcast_S_S2x1x80x80 (constant S_ .f32 0x3F800000#32))
      (Host.exp (Host.negf
        (transpose S2x1x80x80 [1, 0, 2, 3]
          (Host.dotGeneral dot_S1024x1_S2x1024x80x80_S1x2x80x80_0_1_1_023_n_n none W Q)
          transposes_S1x2x80x80_S2x1x80x80_1_0_2_3))))

/-! ## The operations -/

/-- The operations that make the matrix of squared distances, token by code. -/
abbrev distOps : List (HloOp τ sig (Elt F)) :=
  [ unary main_arg0 main_v0 (transpose S2x80x80x1024 [0, 2, 3, 1] · transposes_S2x1024x80x80_S2x80x80x1024_0_2_3_1),
    reshape main_v0 main_v1 rfl shapeCasts_S2x80x80x1024_S12800x1024,
    binary main_v1 main_v1 main_v2 mulf,
    nullary main_cst (constant S_ .f32 0x00000000#32),
    binary main_v2 main_cst main_v3 (fun x v => Host.reduceAdd x v reducesTo_S12800x1024_S12800_d1 h_S_),
    unary main_v3 main_v4 (broadcastInDim S12800x1 ![0] bcast_S12800_S12800x1_0),
    unary main_arg1 main_v5 (transpose S1024x1024 [1, 0] · transposes_S1024x1024_S1024x1024_1_0),
    binary main_v1 main_v5 main_v6 (fun l r => Host.dotGeneral dot_S12800x1024_S1024x1024_S12800x1024_1_0_0_1_n_n none l r),
    nullary main_cst_0 (constant S_ .f32 0x40000000#32),
    unary main_cst_0 main_v7 (broadcastInDim S12800x1024 ![] bcast_S_S12800x1024),
    binary main_v7 main_v6 main_v8 mulf,
    unary main_v4 main_v9 (broadcastInDim S12800x1024 ![0, 1] bcast_S12800x1_S12800x1024_0_1),
    binary main_v9 main_v8 main_v10 subf,
    binary main_arg1 main_arg1 main_v11 mulf,
    nullary main_cst_1 (constant S_ .f32 0x00000000#32),
    binary main_v11 main_cst_1 main_v12 (fun x v => Host.reduceAdd x v reducesTo_S1024x1024_S1024_d1 h_S_),
    unary main_v12 main_v13 (broadcastInDim S1x1024 ![1] bcast_S1024_S1x1024_1),
    unary main_v13 main_v14 (broadcastInDim S12800x1024 ![0, 1] bcast_S1x1024_S12800x1024_0_1),
    binary main_v10 main_v14 main_v15 addf ]

/-- The operations of the distances work on the program's own buffers. -/
theorem distOps_sub : (distOps : List (HloOp τ sig (Elt F))).Forall fun op => op.bufs ⊆ tcRefs τ sig :=
  ⟨unary_bufs_sub ..,
    reshape_bufs_sub ..,
    binary_bufs_sub ..,
    nullary_bufs_sub ..,
    binary_bufs_sub ..,
    unary_bufs_sub ..,
    unary_bufs_sub ..,
    binary_bufs_sub ..,
    nullary_bufs_sub ..,
    unary_bufs_sub ..,
    binary_bufs_sub ..,
    unary_bufs_sub ..,
    binary_bufs_sub ..,
    binary_bufs_sub ..,
    nullary_bufs_sub ..,
    binary_bufs_sub ..,
    unary_bufs_sub ..,
    unary_bufs_sub ..,
    binary_bufs_sub ..⟩

/-- The operations of the arg-min over the codes. -/
abbrev argOps : List (HloOp τ sig (Elt F)) :=
  [ TRef.nullary main_call0.v0 (iotaInDim S12800x1024 32 1),
    TRef.nullary main_call0.cst (constant S_ .f32 0x7F800000#32),
    TRef.nullary main_call0.c (constantI S_ 32 0#32),
    TRef.quaternary (.of main_v15) main_call0.v0 main_call0.cst main_call0.c main_call0.v1_0 (fun x y u v j => (Host.argReduce reducer_argmin_f32_i32 x y u v reducesTo_S12800x1024_S12800_d1 h_S_ j).1),
    TRef.quaternary (.of main_v15) main_call0.v0 main_call0.cst main_call0.c main_call0.v1_1 (fun x y u v j => (Host.argReduce reducer_argmin_f32_i32 x y u v reducesTo_S12800x1024_S12800_d1 h_S_ j).2) ]

/-- The operations of the arg-min work on the program's own buffers. -/
theorem argOps_sub : (argOps : List (HloOp τ sig (Elt F))).Forall fun op => op.bufs ⊆ tcRefs τ sig :=
  ⟨nullary_bufs_sub ..,
    nullary_bufs_sub ..,
    nullary_bufs_sub ..,
    quaternary_bufs_sub ..,
    quaternary_bufs_sub ..⟩

/-- The operations of the table look-up: the indices made non-negative, checked, and the rows gathered. -/
abbrev takeOps : List (HloOp τ sig (Elt F)) :=
  [ TRef.nullary main_call1.c (constantI S_ 32 0#32),
    TRef.unary main_call1.c main_call1.v0 (broadcastInDim S12800 ![] bcast_S_S12800),
    TRef.binary (.of main_v16) main_call1.v0 main_call1.v1 (cmpi .slt),
    TRef.nullary main_call1.c_0 (constantI S_ 32 1024#32),
    TRef.unary main_call1.c_0 main_call1.v2 (broadcastInDim S12800 ![] bcast_S_S12800),
    TRef.binary (.of main_v16) main_call1.v2 main_call1.v3 addi,
    TRef.ternary main_call1.v1 main_call1.v3 (.of main_v16) main_call1.call0.v0 select,
    TRef.unary main_call1.call0.v0 main_call1.v5 (broadcastInDim S12800x1 ![0] bcast_S12800_S12800x1_0),
    TRef.nullary main_call1.c_1 (constantI S1 32 1023#32),
    TRef.nullary main_call1.c_2 (constantI S_ 32 0#32),
    TRef.unary main_call1.c_2 main_call1.v6 (broadcastInDim S12800x1 ![] bcast_S_S12800x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S12800x1 ![0, 1] bcast_S1x1_S12800x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S12800x1_S12800_d1 h_S_),
    TRef.binary (.of main_arg1) main_call1.v5 main_call1.v13 (fun x i => Host.gather gather_S1024x1024_S12800x1_S12800x1024_1_0_n_n_0_1_11024 x i),
    TRef.unary main_call1.v12 main_call1.v14 (broadcastInDim S12800x1024 ![0] bcast_S12800_S12800x1024_0),
    TRef.nullary main_call1.cst (constant S_ .f32 0x7FC00000#32),
    TRef.unary main_call1.cst main_call1.v15 (broadcastInDim S12800x1024 ![] bcast_S_S12800x1024),
    TRef.ternary main_call1.v14 main_call1.v13 main_call1.v15 main_call1.v16 select ]

/-- The operations of the look-up work on the program's own buffers. -/
theorem takeOps_sub : (takeOps : List (HloOp τ sig (Elt F))).Forall fun op => op.bufs ⊆ tcRefs τ sig :=
  ⟨nullary_bufs_sub ..,
    unary_bufs_sub ..,
    binary_bufs_sub ..,
    nullary_bufs_sub ..,
    unary_bufs_sub ..,
    binary_bufs_sub ..,
    ternary_bufs_sub ..,
    unary_bufs_sub ..,
    nullary_bufs_sub ..,
    nullary_bufs_sub ..,
    unary_bufs_sub ..,
    binary_bufs_sub ..,
    unary_bufs_sub ..,
    unary_bufs_sub ..,
    binary_bufs_sub ..,
    binary_bufs_sub ..,
    nullary_bufs_sub ..,
    binary_bufs_sub ..,
    binary_bufs_sub ..,
    unary_bufs_sub ..,
    nullary_bufs_sub ..,
    unary_bufs_sub ..,
    ternary_bufs_sub ..⟩

/-- The operations that make the loss, the quantised array and the reconstruction. -/
abbrev outOps : List (HloOp τ sig (Elt F)) :=
  [ binary main_v17 main_v1 main_v18 subf,
    binary main_v18 main_v18 main_v19 mulf,
    nullary main_cst_2 (constant S_ .f32 0x00000000#32),
    binary main_v19 main_cst_2 main_v20 (fun x v => Host.reduceAdd x v reducesTo_S12800x1024_S_d0_1 h_S_),
    nullary main_cst_3 (constant S_ .f32 0x4B480000#32),
    binary main_v20 main_cst_3 main_v21 Host.divf,
    nullary main_cst_4 (constant S_ .f32 0x3E800000#32),
    binary main_cst_4 main_v21 main_v22 mulf,
    binary main_v17 main_v1 main_v23 subf,
    binary main_v23 main_v23 main_v24 mulf,
    nullary main_cst_5 (constant S_ .f32 0x00000000#32),
    binary main_v24 main_cst_5 main_v25 (fun x v => Host.reduceAdd x v reducesTo_S12800x1024_S_d0_1 h_S_),
    nullary main_cst_6 (constant S_ .f32 0x4B480000#32),
    binary main_v25 main_cst_6 main_v26 Host.divf,
    binary main_v22 main_v26 main_v27 addf,
    binary main_v17 main_v1 main_v28 subf,
    binary main_v1 main_v28 main_v29 addf,
    reshape main_v29 main_v30 rfl shapeCasts_S12800x1024_S2x80x80x1024,
    unary main_v30 main_v31 (transpose S2x1024x80x80 [0, 3, 1, 2] · transposes_S2x80x80x1024_S2x1024x80x80_0_3_1_2),
    binary main_arg2 main_v31 main_v32 (fun l r => Host.dotGeneral dot_S1024x1_S2x1024x80x80_S1x2x80x80_0_1_1_023_n_n none l r),
    unary main_v32 main_v33 (transpose S2x1x80x80 [1, 0, 2, 3] · transposes_S1x2x80x80_S2x1x80x80_1_0_2_3),
    unary main_v33 main_v34 Host.negf,
    unary main_v34 main_v35 Host.exp,
    nullary main_cst_7 (constant S_ .f32 0x3F800000#32),
    unary main_cst_7 main_v36 (broadcastInDim S2x1x80x80 ![] bcast_S_S2x1x80x80),
    binary main_v36 main_v35 main_v37 addf,
    nullary main_cst_8 (constant S_ .f32 0x3F800000#32),
    unary main_cst_8 main_v38 (broadcastInDim S2x1x80x80 ![] bcast_S_S2x1x80x80),
    binary main_v38 main_v37 main_v39 Host.divf ]

/-- The operations of the results work on the program's own buffers. -/
theorem outOps_sub : (outOps : List (HloOp τ sig (Elt F))).Forall fun op => op.bufs ⊆ tcRefs τ sig :=
  ⟨binary_bufs_sub ..,
    binary_bufs_sub ..,
    nullary_bufs_sub ..,
    binary_bufs_sub ..,
    nullary_bufs_sub ..,
    binary_bufs_sub ..,
    nullary_bufs_sub ..,
    binary_bufs_sub ..,
    binary_bufs_sub ..,
    binary_bufs_sub ..,
    nullary_bufs_sub ..,
    binary_bufs_sub ..,
    nullary_bufs_sub ..,
    binary_bufs_sub ..,
    binary_bufs_sub ..,
    binary_bufs_sub ..,
    binary_bufs_sub ..,
    reshape_bufs_sub ..,
    unary_bufs_sub ..,
    binary_bufs_sub ..,
    unary_bufs_sub ..,
    unary_bufs_sub ..,
    unary_bufs_sub ..,
    nullary_bufs_sub ..,
    unary_bufs_sub ..,
    binary_bufs_sub ..,
    nullary_bufs_sub ..,
    unary_bufs_sub ..,
    binary_bufs_sub ..⟩

/-! ## What each part leaves -/

/-- After the first stretch: the distances. -/
theorem dist_v15 (V : Valuation τ sig (Elt F)) :
    after distOps V (Proc.devRef .tc main_v15)
      = distances (tokens (V (Proc.devRef .tc main_arg0))) (V (Proc.devRef .tc main_arg1)) := by
  after_results_simp
  rfl

/-- After the first stretch: the tokens. -/
theorem dist_v1 (V : Valuation τ sig (Elt F)) :
    after distOps V (Proc.devRef .tc main_v1) = tokens (V (Proc.devRef .tc main_arg0)) := by
  after_results_simp
  rfl

/-- After the second stretch: the arg-mins of the distances. -/
theorem arg_v16 (V : Valuation τ sig (Elt F)) :
    after argOps V (Proc.devRef .tc main_v16) = argmins (V (Proc.devRef .tc main_v15)) := by
  after_results_simp
  rfl

/-- After the third stretch: the codes looked up at the arg-mins. -/
theorem take_v17 (V : Valuation τ sig (Elt F)) :
    after takeOps V (Proc.devRef .tc main_v17)
      = looked (V (Proc.devRef .tc main_arg1)) (V (Proc.devRef .tc main_v16)) := by
  after_results_simp
  rfl

/-- After the last stretch: the loss. -/
theorem out_v27 (V : Valuation τ sig (Elt F)) :
    after outOps V (Proc.devRef .tc main_v27) = loss (V (Proc.devRef .tc main_v1)) (V (Proc.devRef .tc main_v17)) := by
  after_results_simp
  rfl

/-- After the last stretch: the quantised array. -/
theorem out_v31 (V : Valuation τ sig (Elt F)) :
    after outOps V (Proc.devRef .tc main_v31)
      = quantised (V (Proc.devRef .tc main_v1)) (V (Proc.devRef .tc main_v17)) := by
  after_results_simp
  rfl

/-- After the last stretch: the reconstruction. -/
theorem out_v39 (V : Valuation τ sig (Elt F)) :
    after outOps V (Proc.devRef .tc main_v39)
      = recon (V (Proc.devRef .tc main_arg2))
          (quantised (V (Proc.devRef .tc main_v1)) (V (Proc.devRef .tc main_v17))) := by
  after_results_simp
  rfl

end Cert.ReferenceIdeal.Hand
-- ==== Proof.ArgMin.lean ====
/-
  The host's arg-min along the rows of a matrix, at the extended reals: it returns the number of the first place at which
  the row attains its least entry. Its body keeps the earlier of two (value, index) pairs in an order that is total, so
  the fold's result is the least pair, whatever the order of the fold.
-/
module

public import proofs.«01_k».proof.Proof.Spec
public import proofs.«01_k».proof.Proof.Words
public import proofs.«01_k».proof.ReferenceIdeal

@[expose] public section

noncomputable section

namespace Cert.ReferenceIdeal.Hand

open Idealize.ShloMosaic Cert.ReferenceIdeal

/-- The order the arg-min keeps the least pair in: by value, then by index. -/
def Before (p q : EReal × BitVec 32) : Prop := p.1 < q.1 ∨ (p.1 = q.1 ∧ p.2.toInt ≤ q.2.toInt)

/-- A pair comes before itself. -/
theorem Before.refl (p : EReal × BitVec 32) : Before p p := Or.inr ⟨rfl, le_rfl⟩

/-- The order of the pairs is transitive. -/
theorem Before.trans {p q r : EReal × BitVec 32} (h : Before p q) (h' : Before q r) : Before p r := by
  rcases h with h | ⟨h, h2⟩ <;> rcases h' with h' | ⟨h', h2'⟩
  · exact Or.inl (h.trans h')
  · exact Or.inl (h' ▸ h)
  · exact Or.inl (h ▸ h')
  · exact Or.inr ⟨h.trans h', h2.trans h2'⟩

/-- One step of the arg-min keeps one of its two pairs, and one that is before both. -/
theorem step_spec (p q : EReal × BitVec 32) :
    (reducer_argmin_f32_i32 (F := Ideal) p q = p ∨ reducer_argmin_f32_i32 (F := Ideal) p q = q)
      ∧ Before (reducer_argmin_f32_i32 (F := Ideal) p q) p ∧ Before (reducer_argmin_f32_i32 (F := Ideal) p q) q := by
  obtain ⟨a, i⟩ := p
  obtain ⟨b, j⟩ := q
  have e : reducer_argmin_f32_i32 (F := Ideal) (a, i) (b, j)
      = if a < b then (a, i) else if a = b ∧ i.toInt < j.toInt then (b, i) else (b, j) := by
    unfold reducer_argmin_f32_i32
    simp only [Ideal.cmpf_def]
    by_cases h : a < b
    · have h1 : Ideal.cmp .olt a b = 1#1 := by simp [Ideal.cmp, h]
      have h2 : Ideal.cmp .une a a = 0#1 := by simp [Ideal.cmp]
      have h3 : Ideal.cmp .oeq a b = 0#1 := by simp [Ideal.cmp, h.ne]
      rw [h1, h2, h3, if_pos h]
      simp [IntOp.ori, IntOp.andi, Scalar.select]
    · by_cases h2 : a = b
      · subst h2
        by_cases h3 : i.toInt < j.toInt
        · simp [Ideal.cmp, IntOp.cmpi, IntOp.ori, IntOp.andi, Scalar.select, BitVec.slt, h3]
        · simp [Ideal.cmp, IntOp.cmpi, IntOp.ori, IntOp.andi, Scalar.select, BitVec.slt, h3]
      · simp [Ideal.cmp, IntOp.cmpi, IntOp.ori, IntOp.andi, Scalar.select, h, h2]
  rw [e]
  by_cases h : a < b
  · rw [if_pos h]
    exact ⟨Or.inl rfl, Before.refl _, Or.inl h⟩
  · rw [if_neg h]
    by_cases h2 : a = b ∧ i.toInt < j.toInt
    · rw [if_pos h2]
      obtain ⟨rfl, h3⟩ := h2
      exact ⟨Or.inl rfl, Before.refl _, Or.inr ⟨rfl, h3.le⟩⟩
    · rw [if_neg h2]
      refine ⟨Or.inr rfl, ?_, Before.refl _⟩
      rcases lt_or_eq_of_le (not_lt.1 h) with hlt | heq
      · exact Or.inl hlt
      · exact Or.inr ⟨heq, not_lt.1 fun h3 => h2 ⟨heq.symm, h3⟩⟩

/-- So folding it keeps one of the pairs, and one that is before them all. -/
theorem fold_spec (l : List (EReal × BitVec 32)) (p : EReal × BitVec 32) :
    l.foldl (reducer_argmin_f32_i32 (F := Ideal)) p ∈ p :: l
      ∧ ∀ q ∈ p :: l, Before (l.foldl (reducer_argmin_f32_i32 (F := Ideal)) p) q := by
  induction l generalizing p with
  | nil => exact ⟨List.mem_singleton.2 rfl, fun q hq => List.mem_singleton.1 hq ▸ Before.refl _⟩
  | cons a l ih =>
    obtain ⟨hm, hb⟩ := ih (reducer_argmin_f32_i32 (F := Ideal) p a)
    obtain ⟨hs, hp, ha⟩ := step_spec p a
    rw [List.foldl_cons]
    constructor
    · rcases List.mem_cons.1 hm with h | h
      · rw [h]
        rcases hs with h' | h' <;> rw [h']
        · exact List.mem_cons_self
        · exact List.mem_cons_of_mem _ List.mem_cons_self
      · exact List.mem_cons_of_mem _ (List.mem_cons_of_mem _ h)
    · intro q hq
      rcases List.mem_cons.1 hq with rfl | hq
      · exact (hb _ List.mem_cons_self).trans hp
      · rcases List.mem_cons.1 hq with rfl | hq
        · exact (hb _ List.mem_cons_self).trans ha
        · exact hb _ (List.mem_cons_of_mem _ hq)

/-- A pair that is before the start `(⊤, 0)` and before every numbered entry of a row, and one of them, carries the
    number of the first place that attains the least entry. -/
theorem index_of_before (f : Fin 1024 → EReal) (r : EReal × BitVec 32)
    (hm : r = (⊤, 0#32) ∨ ∃ k : Fin 1024, r = (f k, BitVec.ofNat 32 k.val))
    (hb : ∀ k : Fin 1024, Before r (f k, BitVec.ofNat 32 k.val)) :
    r.2 = BitVec.ofNat 32 (VQ.firstLeast f).val := by
  have hint : ∀ k : Fin 1024, (BitVec.ofNat 32 k.val).toInt = (k.val : ℤ) := fun k => by
    have := k.isLt
    rw [BitVec.toInt_eq_toNat_of_lt (by simp only [BitVec.toNat_ofNat]; omega), BitVec.toNat_ofNat,
      Nat.mod_eq_of_lt (by omega)]
  rcases hm with rfl | ⟨k, rfl⟩
  · have hall : ∀ k, f k = ⊤ := fun k => by
      rcases hb k with h | ⟨h, _⟩
      · exact absurd h not_top_lt
      · exact h.symm
    have : VQ.firstLeast f = 0 := le_antisymm
      (VQ.firstLeast_le f 0 (le_antisymm (VQ.le_least f _ fun k => by rw [hall, hall]) (VQ.least_le f 0)))
      (Fin.zero_le _)
    rw [this]
    rfl
  · refine congrArg (fun k : Fin 1024 => BitVec.ofNat 32 k.val) (VQ.eq_firstLeast f k (fun j => ?_) fun j hj e => ?_)
    · rcases hb j with h | ⟨h, _⟩
      · exact le_of_lt h
      · exact le_of_eq h
    · rcases hb j with h | ⟨_, h⟩
      · exact absurd e.symm (ne_of_lt h)
      · simp only [hint] at h
        have : j.val < k.val := hj
        omega

/-- The pairs an arg-reduction along a matrix's rows folds over at row `n`: the row's entries. -/
theorem mem_fiber {α β : Type} {N M : ℕ} (x : (⟨2, ![N, M]⟩ : Shape).Idx → α) (y : (⟨2, ![N, M]⟩ : Shape).Idx → β)
    (h : (⟨2, ![N, M]⟩ : Shape).ReducesTo [1] ⟨1, ![N]⟩) (n : Fin N) (p : α × β) :
    p ∈ Host.argReduceFiber x y h (ix1 n) ↔ ∃ k : Fin M, p = (x (ix2 n k), y (ix2 n k)) := by
  have hd : ∀ i, h.drop i = ix1 n ↔ ∃ k : Fin M, ix2 n k = i := fun i => Shape.ReducesTo.fiber_r2_a1 h (ix1 n) i
  unfold Host.argReduceFiber
  simp only [List.mem_map, List.mem_filter, List.mem_finRange, true_and, decide_eq_true_eq, hd]
  constructor
  · rintro ⟨i, ⟨k, hk⟩, rfl⟩
    exact ⟨k, by rw [hk]⟩
  · rintro ⟨k, rfl⟩
    exact ⟨(⟨2, ![N, M]⟩ : Shape).rowMajor (ix2 n k), ⟨k, by rw [Equiv.symm_apply_apply]⟩, by rw [Equiv.symm_apply_apply]⟩

/-- The arg-min of row `n` is the first place at which the row attains its least entry. -/
theorem argReduce_row {N : ℕ} {u : Shape} (D : FVec Ideal (⟨2, ![N, 1024]⟩ : Shape) .f32) (y : (⟨2, ![N, 1024]⟩ : Shape).Idx → BitVec 32)
    (hy : ∀ n k, y (ix2 n k) = BitVec.ofNat 32 k.val) (ix : u.Idx → EReal) (hix : ∀ i, ix i = ⊤)
    (iy : u.Idx → BitVec 32) (hiy : ∀ i, iy i = 0#32) (h : (⟨2, ![N, 1024]⟩ : Shape).ReducesTo [1] ⟨1, ![N]⟩)
    (hu : 0 < u.numel) (n : Fin N) :
    (Host.argReduce (F := Ideal) (φ := .f32) reducer_argmin_f32_i32 D y ix iy h hu (ix1 n)).2
      = BitVec.ofNat 32 (VQ.firstLeast fun k => (D (ix2 n k) : EReal)).val := by
  rw [Ideal.argReduce_eq_reduce2, Host.reduce2_eq_foldl_fiber, hix, hiy]
  obtain ⟨h1, h2⟩ := fold_spec (Host.argReduceFiber (α := EReal) D y h (ix1 n)) (⊤, 0#32)
  refine index_of_before _ _ ?_ fun k => h2 _ (List.mem_cons_of_mem _ ((mem_fiber _ _ h n _).2 ⟨k, by rw [hy]⟩))
  rcases List.mem_cons.1 h1 with e | e
  · exact Or.inl e
  · obtain ⟨k, hk⟩ := (mem_fiber _ _ h n _).1 e
    exact Or.inr ⟨k, hk.trans (by rw [hy])⟩

/-- The same of an array that holds every row's arg-min. -/
theorem argReduce_rows {N : ℕ} {u : Shape} (D : FVec Ideal (⟨2, ![N, 1024]⟩ : Shape) .f32)
    (y : (⟨2, ![N, 1024]⟩ : Shape).Idx → BitVec 32)
    (hy : ∀ n k, y (ix2 n k) = BitVec.ofNat 32 k.val) (ix : u.Idx → EReal) (hix : ∀ i, ix i = ⊤)
    (iy : u.Idx → BitVec 32) (hiy : ∀ i, iy i = 0#32) (h : (⟨2, ![N, 1024]⟩ : Shape).ReducesTo [1] ⟨1, ![N]⟩)
    (hu : 0 < u.numel) (A : (⟨1, ![N]⟩ : Shape).Idx → BitVec 32)
    (hA : A = fun j => (Host.argReduce (F := Ideal) (φ := .f32) reducer_argmin_f32_i32 D y ix iy h hu j).2) (n : Fin N) :
    A (ix1 n) = BitVec.ofNat 32 (VQ.firstLeast fun k => (D (ix2 n k) : EReal)).val :=
  (congrFun hA (ix1 n)).trans (argReduce_row D y hy ix hix iy hiy h hu n)

end Cert.ReferenceIdeal.Hand
-- ==== Proof.RefValue.lean ====
/-
  The reference's values read at an index, at the extended reals.
-/
module

public import proofs.«01_k».proof.Proof.Spec
public import proofs.«01_k».proof.Proof.Words
public import proofs.«01_k».proof.Proof.RefOps
public import proofs.«01_k».proof.Proof.ArgMin
public import Idealize.ShloMosaic.Lib.Routing.Ops

@[expose] public section

set_option maxRecDepth 16384

noncomputable section

namespace Cert.ReferenceIdeal.Hand

open Idealize.ShloMosaic Cert.ReferenceIdeal Cert.ReferenceIdeal.Gen

/-- Row `n` of a token-by-channel array. -/
def row (Z : FVec Ideal S12800x1024 .f32) (n : Fin 12800) (c : Fin 1024) : EReal := Z (ix2 n c)

/-- The codes, one per row. -/
def codes (CB : FVec Ideal S1024x1024 .f32) (k c : Fin 1024) : EReal := CB (ix2 k c)

/-- Entry `(n, k)` of the distances is the squared distance of row `n` to code `k`. -/
theorem distances_apply (Z : FVec Ideal S12800x1024 .f32) (CB : FVec Ideal S1024x1024 .f32) (n : Fin 12800)
    (k : Fin 1024) : distances (F := Ideal) Z CB (ix2 n k) = VQ.dist (codes CB) (row Z n) k := by
  pointwise [distances]
  rw [VQ.word_two]
  unfold VQ.dist
  simp only [mul_comm (codes CB k _) (row Z n _)]
  rfl

/-- The row of candidate numbers counts the codes. -/
theorem numbers_apply (n : Fin 12800) (k : Fin 1024) :
    iotaInDim S12800x1024 32 1 (ix2 n k) = BitVec.ofNat 32 k.val := by
  pointwise

/-- The arg-min's fold starts from plus infinity. -/
theorem start_apply (i : S_.Idx) : (constant (F := Ideal) S_ .f32 0x7F800000#32 i : EReal) = ⊤ := by
  pointwise
  exact VQ.word_top

/-- The arg-min's fold starts from index zero. -/
theorem zero_apply (i : S_.Idx) : constantI S_ 32 0#32 i = 0#32 := by
  pointwise

/-- The arg-min's index part, as a function of the token. -/
theorem argmins_def {F : FTy → Type} [FloatOps F] (D : FVec F S12800x1024 .f32) :
    argmins D
      = fun j => (Host.argReduce reducer_argmin_f32_i32 D (iotaInDim S12800x1024 32 1) (constant S_ .f32 0x7F800000#32)
          (constantI S_ 32 0#32) reducesTo_S12800x1024_S12800_d1 h_S_ j).2 := rfl

/-- The arg-min of row `n` of the distances. -/
theorem argmins_apply (D : FVec Ideal S12800x1024 .f32) (n : Fin 12800) :
    argmins (F := Ideal) D (ix1 n) = BitVec.ofNat 32 (VQ.firstLeast (row D n)).val :=
  argReduce_rows (u := S_) D (iotaInDim S12800x1024 32 1) numbers_apply (constant (F := Ideal) S_ .f32 0x7F800000#32)
    start_apply (constantI S_ 32 0#32) zero_apply reducesTo_S12800x1024_S12800_d1 h_S_ (argmins D) (argmins_def D) n

/-! ## The look-up -/

/-- A code's number as a signed word is itself. -/
theorem toInt_code (k : Fin 1024) : (BitVec.ofNat 32 k.val).toInt = (k.val : ℤ) := by
  have := k.isLt
  rw [BitVec.toInt_eq_toNat_of_lt (by simp only [BitVec.toNat_ofNat]; omega), BitVec.toNat_ofNat,
    Nat.mod_eq_of_lt (by omega)]

/-- A code's number is not negative, so it is looked up as it is. -/
theorem wrapped_apply (I : IVec S12800 32) (n : Fin 12800)
    (k : Fin 1024) (hk : I (ix1 n) = BitVec.ofNat 32 k.val) : wrapped I (ix2 n 0) = BitVec.ofNat 32 k.val := by
  pointwise [wrapped]
  rw [hk]
  have : IntOp.cmpi .slt (BitVec.ofNat 32 k.val) 0#32 = 0#1 := by
    have h : (BitVec.ofNat 32 k.val).slt 0#32 = false := by
      rw [BitVec.slt_eq_decide, toInt_code]
      simp
    unfold IntOp.cmpi
    rw [h]
    rfl
  rw [this]
  rfl

/-- A code's number is in range. -/
theorem inRange_apply (J : IVec S12800x1 32) (n : Fin 12800)
    (k : Fin 1024) (hk : J (ix2 n 0) = BitVec.ofNat 32 k.val) : inRange J (ix1 n) = 1#1 := by
  pointwise [inRange]
  have hlt := k.isLt
  have h1 : IntOp.cmpi .sge (BitVec.ofNat 32 k.val) 0#32 = 1#1 := by
    have h : (0#32 : BitVec 32).sle (BitVec.ofNat 32 k.val) = true := by
      rw [BitVec.sle_eq_decide, toInt_code]
      simp
    unfold IntOp.cmpi
    rw [h]
    rfl
  have h2 : IntOp.cmpi .sle (BitVec.ofNat 32 k.val) 1023#32 = 1#1 := by
    have h : (BitVec.ofNat 32 k.val).sle 1023#32 = true := by
      rw [BitVec.sle_eq_decide, toInt_code]
      exact decide_eq_true (by show (k.val : ℤ) ≤ 1023; omega)
    unfold IntOp.cmpi
    rw [h]
    rfl
  rw [show (Finset.univ : Finset (Fin 1)) = {0} from rfl, Finset.fold_singleton, hk, h1, h2]
  rfl

/-- The row looked up is the code's. -/
theorem looked_apply (CB : FVec Ideal S1024x1024 .f32) (I : IVec S12800 32) (n : Fin 12800) (c : Fin 1024)
    (k : Fin 1024) (hk : I (ix1 n) = BitVec.ofNat 32 k.val) : looked (F := Ideal) CB I (ix2 n c) = CB (ix2 k c) := by
  pointwise [looked]
  rw [inRange_apply _ n k (wrapped_apply I n k hk)]
  exact Routing.gather_row gather_S1024x1024_S12800x1_S12800x1024_1_0_n_n_0_1_11024 rfl rfl rfl rfl rfl CB (wrapped I)
    n c k (wrapped_apply I n k hk) (by norm_num)

/-! ## The results -/

/-- Token `(b, h, w)`'s channels are the input's at `(b, ·, h, w)`. -/
theorem tokens_apply (X : FVec Ideal S2x1024x80x80 .f32) (n : Fin 12800) (c : Fin 1024) :
    tokens (F := Ideal) X (ix2 n c)
      = X (ix4 ⟨n.val / 6400, by omega⟩ c ⟨n.val / 80 % 80, by omega⟩ ⟨n.val % 80, by omega⟩) := by
  pointwise [tokens]

/-- The straight-through value at a position: the token plus the difference of its code and the token. -/
theorem quantised_apply (Z Q : FVec Ideal S12800x1024 .f32) (b : Fin 2) (c : Fin 1024) (h w : Fin 80) :
    quantised (F := Ideal) Z Q (ix4 b c h w)
      = row Z ⟨b.val * 6400 + h.val * 80 + w.val, by omega⟩ c
        + (row Q ⟨b.val * 6400 + h.val * 80 + w.val, by omega⟩ c
          - row Z ⟨b.val * 6400 + h.val * 80 + w.val, by omega⟩ c) := by
  pointwise [quantised]
  rfl

/-- The reconstruction at a position: the logistic function of the channels' weighted sum. -/
theorem recon_apply (W : FVec Ideal S1024x1 .f32) (Q : FVec Ideal S2x1024x80x80 .f32) (b : Fin 2) (h w : Fin 80) :
    recon (F := Ideal) W Q (ix4 b 0 h w) = Ideal.logistic (∑ c, W (ix2 c 0) * Q (ix4 b c h w)) := by
  pointwise [recon]
  rfl

/-- The mean of the squared differences. -/
theorem meanSq_apply (Z Q : FVec Ideal S12800x1024 .f32) (i : S_.Idx) : meanSq (F := Ideal) Z Q i
    = Ideal.div (∑ n, ∑ c, (row Q n c - row Z n c) * (row Q n c - row Z n c)) ((13107200 : ℝ) : EReal) := by
  pointwise [meanSq]
  rw [VQ.word_count]
  rfl

/-- The loss at finite values: the rows' sums of squared differences, each by 1/10485760. -/
theorem loss_apply (Z Q : FVec Ideal S12800x1024 .f32) (i : S_.Idx) (hZ : ∀ n c, row Z n c ≠ ⊤ ∧ row Z n c ≠ ⊥)
    (hQ : ∀ n c, row Q n c ≠ ⊤ ∧ row Q n c ≠ ⊥) :
    loss (F := Ideal) Z Q i
      = ∑ n, ((1 / 10485760 : ℝ) : EReal) * ∑ c, (row Q n c - row Z n c) * (row Q n c - row Z n c) := by
  pointwise [loss]
  rw [meanSq_apply, VQ.word_quarter]
  choose z hz using fun n => VQ.exists_real (row Z n) (hZ n)
  choose q hq using fun n => VQ.exists_real (row Q n) (hQ n)
  simp only [hz, hq, ← EReal.coe_sub, ← EReal.coe_mul, ← VQ.coe_sum]
  rw [Ideal.div_coe (by norm_num), ← EReal.coe_mul, ← EReal.coe_mul]
  refine (EReal.coe_add _ _).symm.trans (congrArg _ ?_)
  rw [← Finset.mul_sum]
  ring

end Cert.ReferenceIdeal.Hand
-- ==== Proof.RefRun.lean ====
/-
  The reference's run, from its four parts: its four results as values of its arguments, the arguments left alone, and
  no semaphore's counter moved.
-/
module

public import proofs.«01_k».proof.Proof.RefOps
public import Idealize.ShloMosaic.Lib.Quiescent

@[expose] public section

set_option maxRecDepth 16384

noncomputable section

namespace Cert.ReferenceIdeal.Hand

open Idealize.ShloMosaic Idealize.ShloMosaic.StableHlo Idealize.SL.Sem Cert.ReferenceIdeal Cert.ReferenceIdeal.Gen

variable {F : FTy → Type} [FloatOps F]

/-- @main's operations, in order. -/
abbrev ops : List (HloOp τ sig (Elt F)) := distOps ++ (argOps ++ (takeOps ++ outOps))

/-- @main is that line of operations. -/
theorem main_eq (c : Dev nD) : main (F := F) c = seq ops := by
  simp only [main, fn_argmin.body, fn_take.body, fn_where.body, seq, bind_assoc, pure_bind]
  rfl

/-- What holds of two lists' elements holds of the elements of the one after the other. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.1 hx with h | h
  · exact h₁ x h
  · exact h₂ x h

/-- Every operation works on the program's own buffers. -/
theorem ops_sub : (ops : List (HloOp τ sig (Elt F))).Forall fun op => op.bufs ⊆ tcRefs τ sig :=
  forall_append distOps_sub (forall_append argOps_sub (forall_append takeOps_sub outOps_sub))

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

/-- Running two lines one after the other. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-! ## What each part keeps -/

/-- The first stretch leaves the arguments alone. -/
theorem dist_keeps (V : Valuation τ sig (Elt F)) :
    after distOps V (Proc.devRef .tc main_arg0) = V (Proc.devRef .tc main_arg0)
      ∧ after distOps V (Proc.devRef .tc main_arg1) = V (Proc.devRef .tc main_arg1)
      ∧ after distOps V (Proc.devRef .tc main_arg2) = V (Proc.devRef .tc main_arg2) := by
  refine ⟨?_, ?_, ?_⟩ <;> after_results_simp

/-- What the second stretch leaves alone. -/
theorem arg_keeps (V : Valuation τ sig (Elt F)) :
    after argOps V (Proc.devRef .tc main_arg0) = V (Proc.devRef .tc main_arg0)
      ∧ after argOps V (Proc.devRef .tc main_arg1) = V (Proc.devRef .tc main_arg1)
      ∧ after argOps V (Proc.devRef .tc main_arg2) = V (Proc.devRef .tc main_arg2)
      ∧ after argOps V (Proc.devRef .tc main_v1) = V (Proc.devRef .tc main_v1) := by
  refine ⟨?_, ?_, ?_, ?_⟩ <;> after_results_simp

/-- What the third stretch leaves alone. -/
theorem take_keeps (V : Valuation τ sig (Elt F)) :
    after takeOps V (Proc.devRef .tc main_arg0) = V (Proc.devRef .tc main_arg0)
      ∧ after takeOps V (Proc.devRef .tc main_arg1) = V (Proc.devRef .tc main_arg1)
      ∧ after takeOps V (Proc.devRef .tc main_arg2) = V (Proc.devRef .tc main_arg2)
      ∧ after takeOps V (Proc.devRef .tc main_v1) = V (Proc.devRef .tc main_v1)
      ∧ after takeOps V (Proc.devRef .tc main_v16) = V (Proc.devRef .tc main_v16) := by
  refine ⟨?_, ?_, ?_, ?_, ?_⟩ <;> after_results_simp

/-- What the last stretch leaves alone. -/
theorem out_keeps (V : Valuation τ sig (Elt F)) :
    after outOps V (Proc.devRef .tc main_arg0) = V (Proc.devRef .tc main_arg0)
      ∧ after outOps V (Proc.devRef .tc main_arg1) = V (Proc.devRef .tc main_arg1)
      ∧ after outOps V (Proc.devRef .tc main_arg2) = V (Proc.devRef .tc main_arg2)
      ∧ after outOps V (Proc.devRef .tc main_v16) = V (Proc.devRef .tc main_v16) := by
  refine ⟨?_, ?_, ?_, ?_⟩ <;> after_results_simp

/-! ## What the whole line leaves -/

/-- The arg-min of the tokens' distances to the codes. -/
def nearestOf (X : FVec F S2x1024x80x80 .f32) (CB : FVec F S1024x1024 .f32) : IVec S12800 32 :=
  argmins (distances (tokens X) CB)

/-- The codes at those indices. -/
def codesOf (X : FVec F S2x1024x80x80 .f32) (CB : FVec F S1024x1024 .f32) : FVec F S12800x1024 .f32 :=
  looked CB (nearestOf X CB)

/-- The whole line leaves the arguments alone. -/
theorem ops_args (V : Valuation τ sig (Elt F)) :
    after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2) := by
  rw [after_two, after_two, after_two]
  refine ⟨?_, ?_, ?_⟩
  · rw [(out_keeps _).1, (take_keeps _).1, (arg_keeps _).1, (dist_keeps _).1]
  · rw [(out_keeps _).2.1, (take_keeps _).2.1, (arg_keeps _).2.1, (dist_keeps _).2.1]
  · rw [(out_keeps _).2.2.1, (take_keeps _).2.2.1, (arg_keeps _).2.2.1, (dist_keeps _).2.2]

/-- The indices. -/
theorem ops_v16 (V : Valuation τ sig (Elt F)) :
    after ops V (Proc.devRef .tc main_v16)
      = nearestOf (V (Proc.devRef .tc main_arg0)) (V (Proc.devRef .tc main_arg1)) := by
  rw [after_two, after_two, after_two, (out_keeps _).2.2.2, (take_keeps _).2.2.2.2, arg_v16, dist_v15]
  rfl

/-- The loss. -/
theorem ops_v27 (V : Valuation τ sig (Elt F)) :
    after ops V (Proc.devRef .tc main_v27)
      = loss (tokens (V (Proc.devRef .tc main_arg0)))
          (codesOf (V (Proc.devRef .tc main_arg0)) (V (Proc.devRef .tc main_arg1))) := by
  rw [after_two, after_two, after_two, out_v27, take_v17, (take_keeps _).2.2.2.1, (arg_keeps _).2.2.2, dist_v1,
    (arg_keeps _).2.1, (dist_keeps _).2.1, arg_v16, dist_v15]
  rfl

/-- The quantised array. -/
theorem ops_v31 (V : Valuation τ sig (Elt F)) :
    after ops V (Proc.devRef .tc main_v31)
      = quantised (tokens (V (Proc.devRef .tc main_arg0)))
          (codesOf (V (Proc.devRef .tc main_arg0)) (V (Proc.devRef .tc main_arg1))) := by
  rw [after_two, after_two, after_two, out_v31, take_v17, (take_keeps _).2.2.2.1, (arg_keeps _).2.2.2, dist_v1,
    (arg_keeps _).2.1, (dist_keeps _).2.1, arg_v16, dist_v15]
  rfl

/-- The reconstruction. -/
theorem ops_v39 (V : Valuation τ sig (Elt F)) :
    after ops V (Proc.devRef .tc main_v39)
      = recon (V (Proc.devRef .tc main_arg2)) (quantised (tokens (V (Proc.devRef .tc main_arg0)))
          (codesOf (V (Proc.devRef .tc main_arg0)) (V (Proc.devRef .tc main_arg1)))) := by
  rw [after_two, after_two, after_two, out_v39, take_v17, (take_keeps _).2.2.2.1, (arg_keeps _).2.2.2, dist_v1,
    (take_keeps _).2.2.1, (arg_keeps _).2.2.1, (dist_keeps _).2.2,
    (arg_keeps _).2.1, (dist_keeps _).2.1, arg_v16, dist_v15]
  rfl

/-- The reference's run: its results, its arguments left alone, and its counters at rest. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem (c.tc.loc main_v39) = recon (m (c.tc.loc main_arg2)) (quantised (tokens (m (c.tc.loc main_arg0)))
            (codesOf (m (c.tc.loc main_arg0)) (m (c.tc.loc main_arg1))))
        ∧ r.2.mem (c.tc.loc main_v31) = quantised (tokens (m (c.tc.loc main_arg0)))
            (codesOf (m (c.tc.loc main_arg0)) (m (c.tc.loc main_arg1)))
        ∧ r.2.mem (c.tc.loc main_v27) = loss (tokens (m (c.tc.loc main_arg0)))
            (codesOf (m (c.tc.loc main_arg0)) (m (c.tc.loc main_arg1)))
        ∧ r.2.mem (c.tc.loc main_v16) = nearestOf (m (c.tc.loc main_arg0)) (m (c.tc.loc main_arg1))
        ∧ r.2.mem (c.tc.loc main_arg0) = m (c.tc.loc main_arg0)
        ∧ r.2.mem (c.tc.loc main_arg1) = m (c.tc.loc main_arg1)
        ∧ r.2.mem (c.tc.loc main_arg2) = m (c.tc.loc main_arg2))
      ∧ r.2.sem = fun _ => 0 :=
  (θ_run defs _ _).mono
    (fun r h => ⟨fun c => ⟨(h c main_v39).trans (ops_v39 _), (h c main_v31).trans (ops_v31 _),
      (h c main_v27).trans (ops_v27 _), (h c main_v16).trans (ops_v16 _),
      (h c main_arg0).trans (ops_args _).1, (h c main_arg1).trans (ops_args _).2.1,
      (h c main_arg2).trans (ops_args _).2.2⟩, sem_eq_zero_of_no_sems (by decide) r.2⟩)
    (run_seq scopedRefs_eq scopedSems_eq defs main (fun _ => ops) main_eq (fun _ => ops_sub) m ρ)

end Cert.ReferenceIdeal.Hand
-- ==== Proof.RefResults.lean ====
/-
  The reference's four results are the four arrays of the specification: the indices always, the quantised array and the
  reconstruction where the input is finite, the loss where the codebook is finite as well.
-/
module

public import proofs.«01_k».proof.Proof.Results
public import proofs.«01_k».proof.Proof.RefValue
public import proofs.«01_k».proof.Proof.RefRun

@[expose] public section

set_option maxRecDepth 16384

noncomputable section

namespace Cert.ReferenceIdeal.Hand

open Idealize.ShloMosaic Cert.ReferenceIdeal Cert.ReferenceIdeal.Gen

/-- Row `n` of the tokens is token `n`'s vector. -/
theorem row_tokens (X : FVec Ideal S2x1024x80x80 .f32) (n : Fin 12800) :
    row (tokens (F := Ideal) X) n = VQ.token X n :=
  funext fun c => tokens_apply X n c

/-- The arg-min of token `n`'s distances is the nearest code's number. -/
theorem nearestOf_apply (X : FVec Ideal S2x1024x80x80 .f32) (CB : FVec Ideal S1024x1024 .f32) (n : Fin 12800) :
    nearestOf (F := Ideal) X CB (ix1 n) = BitVec.ofNat 32 (VQ.code X CB n).val := by
  unfold nearestOf
  rw [argmins_apply]
  have : row (distances (F := Ideal) (tokens (F := Ideal) X) CB) n = VQ.dist (VQ.codes CB) (VQ.token X n) := by
    funext k
    refine (distances_apply _ _ n k).trans ?_
    rw [row_tokens]
    rfl
  rw [this]
  rfl

/-- Row `n` of the codes looked up is the nearest code. -/
theorem row_codesOf (X : FVec Ideal S2x1024x80x80 .f32) (CB : FVec Ideal S1024x1024 .f32) (n : Fin 12800) :
    row (codesOf (F := Ideal) X CB) n = VQ.codes CB (VQ.code X CB n) :=
  funext fun c => looked_apply CB _ n c _ (nearestOf_apply X CB n)

/-- The reference's indices are the specification's. -/
theorem indices_eq (X : FVec Ideal S2x1024x80x80 .f32) (CB : FVec Ideal S1024x1024 .f32) :
    nearestOf (F := Ideal) X CB = VQ.indices X CB := by
  funext i
  idx_vars i
  exact nearestOf_apply X CB _

/-- On a finite input the reference's quantised array is the specification's. -/
theorem quantised_eq (X : FVec Ideal S2x1024x80x80 .f32) (CB : FVec Ideal S1024x1024 .f32)
    (hX : ∀ i, (X i : EReal) ≠ ⊤ ∧ (X i : EReal) ≠ ⊥) :
    quantised (F := Ideal) (tokens (F := Ideal) X) (codesOf (F := Ideal) X CB) = VQ.quantised X CB := by
  funext i
  idx_vars i
  rw [quantised_apply, row_tokens, row_codesOf]
  exact VQ.add_sub_self _ _ (hX _)

/-- On a finite input the reference's reconstruction is the specification's. -/
theorem recon_eq (X : FVec Ideal S2x1024x80x80 .f32) (CB : FVec Ideal S1024x1024 .f32) (W : FVec Ideal S1024x1 .f32)
    (hX : ∀ i, (X i : EReal) ≠ ⊤ ∧ (X i : EReal) ≠ ⊥) :
    recon (F := Ideal) W (quantised (F := Ideal) (tokens (F := Ideal) X) (codesOf (F := Ideal) X CB))
      = VQ.recon X CB W := by
  rw [quantised_eq X CB hX]
  funext i
  idx_vars i
  obtain rfl : i1 = 0 := Subsingleton.elim _ _
  exact recon_apply W _ _ _ _

/-- On a finite input and codebook the reference's loss is the specification's. -/
theorem loss_eq (X : FVec Ideal S2x1024x80x80 .f32) (CB : FVec Ideal S1024x1024 .f32)
    (hX : ∀ i, (X i : EReal) ≠ ⊤ ∧ (X i : EReal) ≠ ⊥) (hCB : ∀ i, (CB i : EReal) ≠ ⊤ ∧ (CB i : EReal) ≠ ⊥) :
    loss (F := Ideal) (tokens (F := Ideal) X) (codesOf (F := Ideal) X CB) = VQ.loss X CB := by
  funext i
  rw [loss_apply]
  · refine Finset.sum_congr rfl fun n _ => congrArg _ ?_
    rw [row_codesOf, row_tokens]
    exact (VQ.least_dist_eq_sum_sq _ _ (fun _ _ => hCB _) fun _ => hX _).symm
  · intro n c
    rw [row_tokens]
    exact hX _
  · intro n c
    rw [row_codesOf]
    exact hCB _

end Cert.ReferenceIdeal.Hand
-- ==== Proof.Finite.lean ====
/-
  The precondition read entry by entry: every entry of the input and of the codebook is a real number.
-/
module

public import proofs.«01_k».proof.Pre_finite
public import proofs.«01_k».proof.Proof.Words
public import Idealize.ShloMosaic.Lib.ReduceAll

@[expose] public section

set_option maxRecDepth 16384

noncomputable section

namespace Cert.Pre_finite

open Idealize.ShloMosaic

/-- The shape relations that the precondition's operations state. -/
theorem sides : Facts where
  bcast_S_S2x1024x80x80 := by decide
  reducesTo_S2x1024x80x80_S_d0_1_2_3 := by decide
  h_S_ := by decide
  bcast_S_S1024x1024 := by decide
  reducesTo_S1024x1024_S_d0_1 := by decide

variable [Facts]
open Facts

/-- Below the top word in absolute value: neither infinity. -/
theorem real_of_lt {S : Shape} (h : S_.BroadcastsInDim S ![]) (A : FVec Ideal S .f32) (i : S.Idx)
    (hi : cmpf (F := Ideal) .olt (Host.absf A) (broadcastInDim S ![] h (constant (F := Ideal) S_ .f32 0x7F800000#32)) i
      = 1#1) : (A i : EReal) ≠ ⊤ ∧ (A i : EReal) ≠ ⊥ := by
  have hb : (max (A i : EReal) (-A i)) < ⊤ := by
    rw [← VQ.word_top]
    by_contra hn
    pointwise at hi
    exact absurd hi (by rw [show (FloatOps.absf (A i) : EReal) = max (A i : EReal) (-A i) from rfl, decide_eq_false hn]; decide)
  refine ⟨fun e => ?_, fun e => ?_⟩
  · rw [e] at hb
    exact absurd hb (by simp)
  · rw [e] at hb
    exact absurd hb (by simp)

/-- A conjunction of two bits is one: both are. -/
theorem both_of_andi : ∀ a b : BitVec 1, IntOp.andi a b = 1#1 → a = 1#1 ∧ b = 1#1 := by decide

/-- Under the precondition every entry of the input and every entry of the codebook is a real number. -/
theorem entries (X : FVec Ideal S2x1024x80x80 .f32) (CB : FVec Ideal S1024x1024 .f32) (W : FVec Ideal S1024x1 .f32)
    (h : fn (F := Ideal) X CB W = fun _ => 1#1) :
    (∀ i, (X i : EReal) ≠ ⊤ ∧ (X i : EReal) ≠ ⊥) ∧ ∀ i, (CB i : EReal) ≠ ⊤ ∧ (CB i : EReal) ≠ ⊥ := by
  haveI : Subsingleton S_.Idx := ⟨fun a b => funext fun k => k.elim0⟩
  have h0 := both_of_andi _ _ (congrFun h (fun a => a.elim0))
  exact ⟨fun i => real_of_lt bcast_S_S2x1024x80x80 X i (Host.reduce_andi_all _ _ _ _ _ h0.1 i),
    fun i => real_of_lt bcast_S_S1024x1024 CB i (Host.reduce_andi_all _ _ _ _ _ h0.2 i)⟩

end Cert.Pre_finite
-- ==== Proof.lean ====
/-
  The certificate: the printed kernel and its idealization run and leave their arguments unchanged, the idealization is
  the kernel with its loss scale named, and on finite inputs the idealized kernel and the reference end with the same
  four results.
-/
module

public import proofs.«01_k».proof.Defs
public import proofs.«01_k».proof.Proof.Gen.Kernel.Frame
public import proofs.«01_k».proof.Proof.KernelResults
public import proofs.«01_k».proof.Proof.RefResults
public import proofs.«01_k».proof.Proof.Finite

@[expose] public section

noncomputable section

namespace Cert.Proof

open Idealize.ShloMosaic Idealize.SL.Sem

local instance : Cert.Pre_finite.Facts := Cert.Pre_finite.sides

/-- The reference runs and leaves its arguments and the counters as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ Cert.ReferenceIdeal.τ).loc Cert.ReferenceIdeal.main_arg0)
            = m ((c.tc : Thread _ Cert.ReferenceIdeal.τ).loc Cert.ReferenceIdeal.main_arg0)
        ∧ r.2.mem ((c.tc : Thread _ Cert.ReferenceIdeal.τ).loc Cert.ReferenceIdeal.main_arg1)
            = m ((c.tc : Thread _ Cert.ReferenceIdeal.τ).loc Cert.ReferenceIdeal.main_arg1)
        ∧ r.2.mem ((c.tc : Thread _ Cert.ReferenceIdeal.τ).loc Cert.ReferenceIdeal.main_arg2)
            = m ((c.tc : Thread _ Cert.ReferenceIdeal.τ).loc Cert.ReferenceIdeal.main_arg2))
        ∧ r.2.sem = fun _ => 0) :=
  (θ_run _ _ _).mono (fun _ h => ⟨fun c => (h.1 c).2.2.2.2, h.2⟩) (Cert.ReferenceIdeal.Hand.run_main m g)

/-- On finite inputs the idealized kernel and the reference end with the same results: those of the specification. -/
theorem same_results : Cert.algebraic_KernelIdeal_ReferenceIdeal_pre_finite := by
  intro m g m' g' hpre hagree
  refine ⟨fun c => VQ.recon (Cert.KernelIdeal.input m c) (Cert.KernelIdeal.codebook m c) (Cert.KernelIdeal.weights m c),
    fun c => VQ.quantised (Cert.KernelIdeal.input m c) (Cert.KernelIdeal.codebook m c),
    fun c => VQ.loss (Cert.KernelIdeal.input m c) (Cert.KernelIdeal.codebook m c),
    fun c => VQ.indices (Cert.KernelIdeal.input m c) (Cert.KernelIdeal.codebook m c),
    Cert.KernelIdeal.run m g, (θ_run _ _ _).mono (fun r h c => ?_) (Cert.ReferenceIdeal.Hand.run_main m' g')⟩
  obtain ⟨hX, hCB⟩ := Cert.Pre_finite.entries _ _ _ (hpre c)
  obtain ⟨e0, e1, e2⟩ := hagree c
  obtain ⟨h39, h31, h27, h16, ha⟩ := h.1 c
  rw [e0, e1, e2] at h39
  rw [e0, e1] at h31 h27 h16
  exact ⟨h39.trans (Cert.ReferenceIdeal.Hand.recon_eq _ _ _ hX),
    h31.trans (Cert.ReferenceIdeal.Hand.quantised_eq _ _ hX),
    h27.trans (Cert.ReferenceIdeal.Hand.loss_eq _ _ hX hCB),
    h16.trans (Cert.ReferenceIdeal.Hand.indices_eq _ _), ha⟩

theorem claim : Cert.Claim :=
  ⟨Cert.Kernel.Gen.facts, Cert.KernelIdeal.Gen.facts, Cert.ReferenceIdeal.Gen.facts, Cert.Pre_finite.sides,
    fun m g _ => Cert.Kernel.Gen.frame m g,
    fun m g _ => Cert.KernelIdeal.Gen.frame m g,
    fun m g _ => Cert.KernelIdeal.Gen.frame m g,
    fun m g _ => reference_frame m g,
    fun m g _ => reference_frame m g,
    IdealRules.named_const.statement Cert.KernelIdeal.κ "loss_scale" .f32 0x33CCCCCD#32 _ rfl,
    same_results⟩

end Cert.Proof

end
